-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S2x2816x128x512 : Shape := ⟨4, ![2, 2816, 128, 512]⟩
abbrev S2x2816x128 : Shape := ⟨3, ![2, 2816, 128]⟩
abbrev S2x2816x128x64 : Shape := ⟨4, ![2, 2816, 128, 64]⟩
abbrev S2x2816x512 : Shape := ⟨3, ![2, 2816, 512]⟩
abbrev S2x2816 : Shape := ⟨2, ![2, 2816]⟩
abbrev S2x2816x64 : Shape := ⟨3, ![2, 2816, 64]⟩
abbrev S2 : Shape := ⟨1, ![2]⟩
abbrev S_ : Shape := ⟨0, ![]⟩

class Facts : Prop where
  bcast_S_S2x2816 : S_.BroadcastsInDim S2x2816 (![] : Fin 0 → Fin S2x2816.rank)

variable [Facts]

def fn {F : FTy → Type} [FloatOps F] (main_arg0 : FVec F S2x2816x128x512 .fp8e4m3) (main_arg1 : FVec F S2x2816x128 .f32) (main_arg2 : FVec F S2x2816x128x64 .bf16) (main_arg3 : FVec F S2x2816x512 .fp8e4m3) (main_arg4 : FVec F S2x2816 .f32) (main_arg5 : FVec F S2x2816x64 .bf16) (main_arg6 : IVec S2 32) : IVec S2x2816 1 :=
  let main_cst : FVec F S_ .f32 := constant S_ .f32 0x7F7FFFFF#32
  let main_v0 : FVec F S2x2816 .f32 := broadcastInDim S2x2816 ![] bcast_S_S2x2816 main_cst
  let main_v1 : IVec S2x2816 1 := cmpf .ole main_arg4 main_v0
  main_v1
-- ==== Kernel.lean ====
abbrev S2x2816x128x512 : Shape := ⟨4, ![2, 2816, 128, 512]⟩
abbrev S2x2816x128 : Shape := ⟨3, ![2, 2816, 128]⟩
abbrev S2x2816x128x64 : Shape := ⟨4, ![2, 2816, 128, 64]⟩
abbrev S2x2816x512 : Shape := ⟨3, ![2, 2816, 512]⟩
abbrev S2x2816 : Shape := ⟨2, ![2, 2816]⟩
abbrev S2x2816x64 : Shape := ⟨3, ![2, 2816, 64]⟩
abbrev S2 : Shape := ⟨1, ![2]⟩
abbrev S2x704x4x128 : Shape := ⟨4, ![2, 704, 4, 128]⟩
abbrev S2x512x2816 : Shape := ⟨3, ![2, 512, 2816]⟩
abbrev S2x2816x1 : Shape := ⟨3, ![2, 2816, 1]⟩
abbrev S1x4x128x512 : Shape := ⟨4, ![1, 4, 128, 512]⟩
abbrev S1x1x4x128 : Shape := ⟨4, ![1, 1, 4, 128]⟩
abbrev S1x4x128x64 : Shape := ⟨4, ![1, 4, 128, 64]⟩
abbrev S1x2816x512 : Shape := ⟨3, ![1, 2816, 512]⟩
abbrev S1x512x2816 : Shape := ⟨3, ![1, 512, 2816]⟩
abbrev S1x2816x128 : Shape := ⟨3, ![1, 2816, 128]⟩
abbrev S1x2816x64 : Shape := ⟨3, ![1, 2816, 64]⟩
abbrev S2816x512 : Shape := ⟨2, ![2816, 512]⟩
abbrev S1 : Shape := ⟨1, ![1]⟩
abbrev S4x128x512 : Shape := ⟨3, ![4, 128, 512]⟩
abbrev S512x512 : Shape := ⟨2, ![512, 512]⟩
abbrev S4x128x64 : Shape := ⟨3, ![4, 128, 64]⟩
abbrev S512x64 : Shape := ⟨2, ![512, 64]⟩
abbrev S1x1x1x128 : Shape := ⟨4, ![1, 1, 1, 128]⟩
abbrev S1x128 : Shape := ⟨2, ![1, 128]⟩
abbrev S1x512 : Shape := ⟨2, ![1, 512]⟩
abbrev S1x256x512 : Shape := ⟨3, ![1, 256, 512]⟩
abbrev S256x512 : Shape := ⟨2, ![256, 512]⟩
abbrev S1x256x64 : Shape := ⟨3, ![1, 256, 64]⟩
abbrev S256x64 : Shape := ⟨2, ![256, 64]⟩
abbrev S1x256x1 : Shape := ⟨3, ![1, 256, 1]⟩
abbrev S256x1 : Shape := ⟨2, ![256, 1]⟩
abbrev S512 : Shape := ⟨1, ![512]⟩
abbrev S1x512x256 : Shape := ⟨3, ![1, 512, 256]⟩
abbrev S512x256 : Shape := ⟨2, ![512, 256]⟩
abbrev S512x128 : Shape := ⟨2, ![512, 128]⟩
abbrev S128x512 : Shape := ⟨2, ![128, 512]⟩
abbrev S1x1x128x512 : Shape := ⟨4, ![1, 1, 128, 512]⟩

abbrev nBuf : Space → Nat
  | .hbm => 12
  | .vmem => 19
  | .smem => 1
  | _ => 0

abbrev bufTy : (tb : Table) → Fin (tcTables nBuf tb) → BufTy
  | .hbm, ⟨0, _⟩ => ⟨S2x2816x128x512, .fp8e4m3⟩
  | .hbm, ⟨1, _⟩ => ⟨S2x2816x128, .f32⟩
  | .hbm, ⟨2, _⟩ => ⟨S2x2816x128x64, .bf16⟩
  | .hbm, ⟨3, _⟩ => ⟨S2x2816x512, .fp8e4m3⟩
  | .hbm, ⟨4, _⟩ => ⟨S2x2816, .f32⟩
  | .hbm, ⟨5, _⟩ => ⟨S2x2816x64, .bf16⟩
  | .hbm, ⟨6, _⟩ => ⟨S2x704x4x128, .f32⟩
  | .hbm, ⟨7, _⟩ => ⟨S2x512x2816, .fp8e4m3⟩
  | .hbm, ⟨8, _⟩ => ⟨S2x2816x1, .f32⟩
  | .hbm, ⟨9, _⟩ => ⟨S2x2816x128, .f32⟩
  | .hbm, ⟨10, _⟩ => ⟨S2x2816x128x512, .bf16⟩
  | .hbm, ⟨11, _⟩ => ⟨S2x704x4x128, .f32⟩
  | .local _ .vmem, ⟨0, _⟩ => ⟨S1x4x128x512, .fp8e4m3⟩
  | .local _ .vmem, ⟨1, _⟩ => ⟨S1x4x128x512, .fp8e4m3⟩
  | .local _ .vmem, ⟨2, _⟩ => ⟨S1x1x4x128, .f32⟩
  | .local _ .vmem, ⟨3, _⟩ => ⟨S1x1x4x128, .f32⟩
  | .local _ .vmem, ⟨4, _⟩ => ⟨S1x4x128x64, .bf16⟩
  | .local _ .vmem, ⟨5, _⟩ => ⟨S1x4x128x64, .bf16⟩
  | .local _ .vmem, ⟨6, _⟩ => ⟨S1x2816x512, .fp8e4m3⟩
  | .local _ .vmem, ⟨7, _⟩ => ⟨S1x2816x512, .fp8e4m3⟩
  | .local _ .vmem, ⟨8, _⟩ => ⟨S1x512x2816, .fp8e4m3⟩
  | .local _ .vmem, ⟨9, _⟩ => ⟨S1x512x2816, .fp8e4m3⟩
  | .local _ .vmem, ⟨10, _⟩ => ⟨S1x2816x128, .f32⟩
  | .local _ .vmem, ⟨11, _⟩ => ⟨S1x2816x128, .f32⟩
  | .local _ .vmem, ⟨12, _⟩ => ⟨S1x2816x64, .bf16⟩
  | .local _ .vmem, ⟨13, _⟩ => ⟨S1x2816x64, .bf16⟩
  | .local _ .vmem, ⟨14, _⟩ => ⟨S1x4x128x512, .bf16⟩
  | .local _ .vmem, ⟨15, _⟩ => ⟨S1x4x128x512, .bf16⟩
  | .local _ .vmem, ⟨16, _⟩ => ⟨S1x1x4x128, .f32⟩
  | .local _ .vmem, ⟨17, _⟩ => ⟨S1x1x4x128, .f32⟩
  | .local _ .vmem, ⟨18, _⟩ => ⟨S2816x512, .f32⟩
  | .local _ .smem, ⟨0, _⟩ => ⟨S2, .i32⟩
  | _, _ => ⟨S2x2816x128x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 704], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
@[reducible] def k0_t1_loop (i : grid0.Coords) : Scf.Loop 32 :=
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_35 : BitVec 32 := 1#32
  ⟨c0_i32_33, v74, c1_i32_35⟩
def k0_mult1 (i : grid0.Coords) (k0_t1 : Fin (k0_t1_loop i).trips) : BitVec 32 :=
  let c0_i32_33 : BitVec 32 := 0#32
  let c1_i32_35 : BitVec 32 := 1#32
  let arg13 : BitVec 32 := Scf.iv c0_i32_33 c1_i32_35 k0_t1
  let c256_i32_89 : BitVec 32 := 256#32
  let v177 : BitVec 32 := Scalar.muli arg13 c256_i32_89
  v177
def k0_off2 (i : grid0.Coords) (k0_t1 : Fin (k0_t1_loop i).trips) : Fin 3 → Nat :=
  let c0_90 : Index := 0#32
  let c0_i32_33 : BitVec 32 := 0#32
  let c1_i32_35 : BitVec 32 := 1#32
  let arg13 : BitVec 32 := Scf.iv c0_i32_33 c1_i32_35 k0_t1
  let c256_i32_89 : BitVec 32 := 256#32
  let v177 : BitVec 32 := Scalar.muli arg13 c256_i32_89
  let v178 : BitVec 32 := v177
  let v179 : Index := Scalar.indexCast v178
  let c0_91 : Index := 0#32
  ![0, v179.toNat, 0]
def k0_off3 (i : grid0.Coords) (k0_t1 : Fin (k0_t1_loop i).trips) : Fin 3 → Nat :=
  let c0_93 : Index := 0#32
  let c0_i32_33 : BitVec 32 := 0#32
  let c1_i32_35 : BitVec 32 := 1#32
  let arg13 : BitVec 32 := Scf.iv c0_i32_33 c1_i32_35 k0_t1
  let c256_i32_89 : BitVec 32 := 256#32
  let v177 : BitVec 32 := Scalar.muli arg13 c256_i32_89
  let v178 : BitVec 32 := v177
  let v183 : Index := Scalar.indexCast v178
  let c0_94 : Index := 0#32
  ![0, v183.toNat, 0]
def k0_off4 (i : grid0.Coords) (k0_t1 : Fin (k0_t1_loop i).trips) : Fin 3 → Nat :=
  let c0_96 : Index := 0#32
  let c0_i32_33 : BitVec 32 := 0#32
  let c1_i32_35 : BitVec 32 := 1#32
  let arg13 : BitVec 32 := Scf.iv c0_i32_33 c1_i32_35 k0_t1
  let c256_i32_89 : BitVec 32 := 256#32
  let v177 : BitVec 32 := Scalar.muli arg13 c256_i32_89
  let v178 : BitVec 32 := v177
  let v187 : Index := Scalar.indexCast v178
  let c0_97 : Index := 0#32
  ![0, v187.toNat, 0]
def k0_off5 (i : grid0.Coords) (k0_t1 : Fin (k0_t1_loop i).trips) : Fin 2 → Nat :=
  let c0_i32_33 : BitVec 32 := 0#32
  let c1_i32_35 : BitVec 32 := 1#32
  let arg13 : BitVec 32 := Scf.iv c0_i32_33 c1_i32_35 k0_t1
  let c256_i32_89 : BitVec 32 := 256#32
  let v177 : BitVec 32 := Scalar.muli arg13 c256_i32_89
  let v178 : BitVec 32 := v177
  let v206 : Index := Scalar.indexCast v178
  let c0_101 : Index := 0#32
  ![v206.toNat, 0]
@[reducible] def k0_t2_loop (i : grid0.Coords) : Scf.Loop 32 :=
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let v71 : BitVec 32 := Scalar.addi c0_i32_33 v70
  let c1_i32_36 : BitVec 32 := 1#32
  ⟨v74, v71, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg13 : BitVec 32 := Scf.iv v74 c1_i32_36 k0_t2
  let c256_i32_89 : BitVec 32 := 256#32
  let v177 : BitVec 32 := Scalar.muli arg13 c256_i32_89
  v177
def k0_off6 (i : grid0.Coords) (k0_t2 : Fin (k0_t2_loop i).trips) : Fin 3 → Nat :=
  let c0_90 : Index := 0#32
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg13 : BitVec 32 := Scf.iv v74 c1_i32_36 k0_t2
  let c256_i32_89 : BitVec 32 := 256#32
  let v177 : BitVec 32 := Scalar.muli arg13 c256_i32_89
  let v178 : BitVec 32 := v177
  let v179 : Index := Scalar.indexCast v178
  let c0_91 : Index := 0#32
  ![0, v179.toNat, 0]
def k0_off7 (i : grid0.Coords) (k0_t2 : Fin (k0_t2_loop i).trips) : Fin 3 → Nat :=
  let c0_93 : Index := 0#32
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg13 : BitVec 32 := Scf.iv v74 c1_i32_36 k0_t2
  let c256_i32_89 : BitVec 32 := 256#32
  let v177 : BitVec 32 := Scalar.muli arg13 c256_i32_89
  let v178 : BitVec 32 := v177
  let v183 : Index := Scalar.indexCast v178
  let c0_94 : Index := 0#32
  ![0, v183.toNat, 0]
def k0_off8 (i : grid0.Coords) (k0_t2 : Fin (k0_t2_loop i).trips) : Fin 3 → Nat :=
  let c0_96 : Index := 0#32
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg13 : BitVec 32 := Scf.iv v74 c1_i32_36 k0_t2
  let c256_i32_89 : BitVec 32 := 256#32
  let v177 : BitVec 32 := Scalar.muli arg13 c256_i32_89
  let v178 : BitVec 32 := v177
  let v187 : Index := Scalar.indexCast v178
  let c0_97 : Index := 0#32
  ![0, v187.toNat, 0]
def k0_off9 (i : grid0.Coords) (k0_t2 : Fin (k0_t2_loop i).trips) : Fin 2 → Nat :=
  let c0_i32_33 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v70 : BitVec 32 := Scalar.subi v20 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg13 : BitVec 32 := Scf.iv v74 c1_i32_36 k0_t2
  let c256_i32_89 : BitVec 32 := 256#32
  let v177 : BitVec 32 := Scalar.muli arg13 c256_i32_89
  let v178 : BitVec 32 := v177
  let v206 : Index := Scalar.indexCast v178
  let c0_101 : Index := 0#32
  ![v206.toNat, 0]
@[reducible] def k0_t3_loop (i : grid0.Coords) : Scf.Loop 32 :=
  let c0_i32_38 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v78 : BitVec 32 := Scalar.subi v20 c0_i32_38
  let c1_i32_39 : BitVec 32 := 1#32
  let v80 : BitVec 32 := Scalar.divsi v78 c1_i32_39
  let v81 : BitVec 32 := Scalar.muli v80 c1_i32_39
  let v82 : BitVec 32 := Scalar.addi c0_i32_38 v81
  let c1_i32_40 : BitVec 32 := 1#32
  ⟨c0_i32_38, v82, c1_i32_40⟩
def k0_mult3 (i : grid0.Coords) (k0_t3 : Fin (k0_t3_loop i).trips) : BitVec 32 :=
  let c0_i32_38 : BitVec 32 := 0#32
  let c1_i32_40 : BitVec 32 := 1#32
  let arg13 : BitVec 32 := Scf.iv c0_i32_38 c1_i32_40 k0_t3
  let c256_i32_89 : BitVec 32 := 256#32
  let v177 : BitVec 32 := Scalar.muli arg13 c256_i32_89
  v177
def k0_off10 (i : grid0.Coords) (k0_t3 : Fin (k0_t3_loop i).trips) : Fin 2 → Nat :=
  let c0_i32_38 : BitVec 32 := 0#32
  let c1_i32_40 : BitVec 32 := 1#32
  let arg13 : BitVec 32 := Scf.iv c0_i32_38 c1_i32_40 k0_t3
  let c256_i32_89 : BitVec 32 := 256#32
  let v177 : BitVec 32 := Scalar.muli arg13 c256_i32_89
  let v178 : BitVec 32 := v177
  let v179 : Index := Scalar.indexCast v178
  let c0_90 : Index := 0#32
  ![v179.toNat, 0]
def k0_off11 (i : grid0.Coords) (k0_t3 : Fin (k0_t3_loop i).trips) : Fin 3 → Nat :=
  let c0_91 : Index := 0#32
  let c0_i32_38 : BitVec 32 := 0#32
  let c1_i32_40 : BitVec 32 := 1#32
  let arg13 : BitVec 32 := Scf.iv c0_i32_38 c1_i32_40 k0_t3
  let c256_i32_89 : BitVec 32 := 256#32
  let v177 : BitVec 32 := Scalar.muli arg13 c256_i32_89
  let v178 : BitVec 32 := v177
  let v184 : Index := Scalar.indexCast v178
  let c0_92 : Index := 0#32
  ![0, v184.toNat, 0]
@[reducible] def k0_t4_loop (i : grid0.Coords) : Scf.Loop 32 :=
  let c0_i32_38 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v78 : BitVec 32 := Scalar.subi v20 c0_i32_38
  let c1_i32_39 : BitVec 32 := 1#32
  let v80 : BitVec 32 := Scalar.divsi v78 c1_i32_39
  let v81 : BitVec 32 := Scalar.muli v80 c1_i32_39
  let v82 : BitVec 32 := Scalar.addi c0_i32_38 v81
  let v79 : BitVec 32 := Scalar.addi c0_i32_38 v78
  let c1_i32_41 : BitVec 32 := 1#32
  ⟨v82, v79, c1_i32_41⟩
def k0_mult4 (i : grid0.Coords) (k0_t4 : Fin (k0_t4_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v78 : BitVec 32 := Scalar.subi v20 c0_i32_38
  let c1_i32_39 : BitVec 32 := 1#32
  let v80 : BitVec 32 := Scalar.divsi v78 c1_i32_39
  let v81 : BitVec 32 := Scalar.muli v80 c1_i32_39
  let v82 : BitVec 32 := Scalar.addi c0_i32_38 v81
  let c1_i32_41 : BitVec 32 := 1#32
  let arg13 : BitVec 32 := Scf.iv v82 c1_i32_41 k0_t4
  let c256_i32_89 : BitVec 32 := 256#32
  let v177 : BitVec 32 := Scalar.muli arg13 c256_i32_89
  v177
def k0_off12 (i : grid0.Coords) (k0_t4 : Fin (k0_t4_loop i).trips) : Fin 2 → Nat :=
  let c0_i32_38 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v78 : BitVec 32 := Scalar.subi v20 c0_i32_38
  let c1_i32_39 : BitVec 32 := 1#32
  let v80 : BitVec 32 := Scalar.divsi v78 c1_i32_39
  let v81 : BitVec 32 := Scalar.muli v80 c1_i32_39
  let v82 : BitVec 32 := Scalar.addi c0_i32_38 v81
  let c1_i32_41 : BitVec 32 := 1#32
  let arg13 : BitVec 32 := Scf.iv v82 c1_i32_41 k0_t4
  let c256_i32_89 : BitVec 32 := 256#32
  let v177 : BitVec 32 := Scalar.muli arg13 c256_i32_89
  let v178 : BitVec 32 := v177
  let v179 : Index := Scalar.indexCast v178
  let c0_90 : Index := 0#32
  ![v179.toNat, 0]
def k0_off13 (i : grid0.Coords) (k0_t4 : Fin (k0_t4_loop i).trips) : Fin 3 → Nat :=
  let c0_91 : Index := 0#32
  let c0_i32_38 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v78 : BitVec 32 := Scalar.subi v20 c0_i32_38
  let c1_i32_39 : BitVec 32 := 1#32
  let v80 : BitVec 32 := Scalar.divsi v78 c1_i32_39
  let v81 : BitVec 32 := Scalar.muli v80 c1_i32_39
  let v82 : BitVec 32 := Scalar.addi c0_i32_38 v81
  let c1_i32_41 : BitVec 32 := 1#32
  let arg13 : BitVec 32 := Scf.iv v82 c1_i32_41 k0_t4
  let c256_i32_89 : BitVec 32 := 256#32
  let v177 : BitVec 32 := Scalar.muli arg13 c256_i32_89
  let v178 : BitVec 32 := v177
  let v184 : Index := Scalar.indexCast v178
  let c0_92 : Index := 0#32
  ![0, v184.toNat, 0]
@[reducible] def k0_t5_loop (i : grid0.Coords) : Scf.Loop 32 :=
  let c0_i32_51 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v118 : BitVec 32 := Scalar.subi v20 c0_i32_51
  let c1_i32_52 : BitVec 32 := 1#32
  let v120 : BitVec 32 := Scalar.divsi v118 c1_i32_52
  let v121 : BitVec 32 := Scalar.muli v120 c1_i32_52
  let v122 : BitVec 32 := Scalar.addi c0_i32_51 v121
  let c1_i32_53 : BitVec 32 := 1#32
  ⟨c0_i32_51, v122, c1_i32_53⟩
def k0_mult5 (i : grid0.Coords) (k0_t5 : Fin (k0_t5_loop i).trips) : BitVec 32 :=
  let c0_i32_51 : BitVec 32 := 0#32
  let c1_i32_53 : BitVec 32 := 1#32
  let arg13 : BitVec 32 := Scf.iv c0_i32_51 c1_i32_53 k0_t5
  let c256_i32_89 : BitVec 32 := 256#32
  let v177 : BitVec 32 := Scalar.muli arg13 c256_i32_89
  v177
def k0_off14 (i : grid0.Coords) (k0_t5 : Fin (k0_t5_loop i).trips) : Fin 2 → Nat :=
  let c0_i32_51 : BitVec 32 := 0#32
  let c1_i32_53 : BitVec 32 := 1#32
  let arg13 : BitVec 32 := Scf.iv c0_i32_51 c1_i32_53 k0_t5
  let c256_i32_89 : BitVec 32 := 256#32
  let v177 : BitVec 32 := Scalar.muli arg13 c256_i32_89
  let v178 : BitVec 32 := v177
  let v179 : Index := Scalar.indexCast v178
  let c0_90 : Index := 0#32
  ![v179.toNat, 0]
def k0_off15 (i : grid0.Coords) (k0_t5 : Fin (k0_t5_loop i).trips) : Fin 3 → Nat :=
  let c0_93 : Index := 0#32
  let c0_94 : Index := 0#32
  let c0_i32_51 : BitVec 32 := 0#32
  let c1_i32_53 : BitVec 32 := 1#32
  let arg13 : BitVec 32 := Scf.iv c0_i32_51 c1_i32_53 k0_t5
  let c256_i32_89 : BitVec 32 := 256#32
  let v177 : BitVec 32 := Scalar.muli arg13 c256_i32_89
  let v178 : BitVec 32 := v177
  let v188 : Index := Scalar.indexCast v178
  ![0, 0, v188.toNat]
@[reducible] def k0_t6_loop (i : grid0.Coords) : Scf.Loop 32 :=
  let c0_i32_51 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v118 : BitVec 32 := Scalar.subi v20 c0_i32_51
  let c1_i32_52 : BitVec 32 := 1#32
  let v120 : BitVec 32 := Scalar.divsi v118 c1_i32_52
  let v121 : BitVec 32 := Scalar.muli v120 c1_i32_52
  let v122 : BitVec 32 := Scalar.addi c0_i32_51 v121
  let v119 : BitVec 32 := Scalar.addi c0_i32_51 v118
  let c1_i32_54 : BitVec 32 := 1#32
  ⟨v122, v119, c1_i32_54⟩
def k0_mult6 (i : grid0.Coords) (k0_t6 : Fin (k0_t6_loop i).trips) : BitVec 32 :=
  let c0_i32_51 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v118 : BitVec 32 := Scalar.subi v20 c0_i32_51
  let c1_i32_52 : BitVec 32 := 1#32
  let v120 : BitVec 32 := Scalar.divsi v118 c1_i32_52
  let v121 : BitVec 32 := Scalar.muli v120 c1_i32_52
  let v122 : BitVec 32 := Scalar.addi c0_i32_51 v121
  let c1_i32_54 : BitVec 32 := 1#32
  let arg13 : BitVec 32 := Scf.iv v122 c1_i32_54 k0_t6
  let c256_i32_89 : BitVec 32 := 256#32
  let v177 : BitVec 32 := Scalar.muli arg13 c256_i32_89
  v177
def k0_off16 (i : grid0.Coords) (k0_t6 : Fin (k0_t6_loop i).trips) : Fin 2 → Nat :=
  let c0_i32_51 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v118 : BitVec 32 := Scalar.subi v20 c0_i32_51
  let c1_i32_52 : BitVec 32 := 1#32
  let v120 : BitVec 32 := Scalar.divsi v118 c1_i32_52
  let v121 : BitVec 32 := Scalar.muli v120 c1_i32_52
  let v122 : BitVec 32 := Scalar.addi c0_i32_51 v121
  let c1_i32_54 : BitVec 32 := 1#32
  let arg13 : BitVec 32 := Scf.iv v122 c1_i32_54 k0_t6
  let c256_i32_89 : BitVec 32 := 256#32
  let v177 : BitVec 32 := Scalar.muli arg13 c256_i32_89
  let v178 : BitVec 32 := v177
  let v179 : Index := Scalar.indexCast v178
  let c0_90 : Index := 0#32
  ![v179.toNat, 0]
def k0_off17 (i : grid0.Coords) (k0_t6 : Fin (k0_t6_loop i).trips) : Fin 3 → Nat :=
  let c0_93 : Index := 0#32
  let c0_94 : Index := 0#32
  let c0_i32_51 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v4 : BitVec 1 := Scalar.cmpi .sgt v0 c0_i32
  let v5 : BitVec 32 := Scalar.extui v4
  let c0_i32_0 : BitVec 32 := 0#32
  let v6 : BitVec 1 := Scalar.cmpi .slt v0 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v0 c256_i32
  let c0_i32_3 : BitVec 32 := 0#32
  let v16 : BitVec 1 := Scalar.cmpi .ne v15 c0_i32_3
  let v17 : BitVec 1 := Scalar.andi v14 v16
  let v3 : BitVec 32 := Scalar.divsi v0 c256_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v118 : BitVec 32 := Scalar.subi v20 c0_i32_51
  let c1_i32_52 : BitVec 32 := 1#32
  let v120 : BitVec 32 := Scalar.divsi v118 c1_i32_52
  let v121 : BitVec 32 := Scalar.muli v120 c1_i32_52
  let v122 : BitVec 32 := Scalar.addi c0_i32_51 v121
  let c1_i32_54 : BitVec 32 := 1#32
  let arg13 : BitVec 32 := Scf.iv v122 c1_i32_54 k0_t6
  let c256_i32_89 : BitVec 32 := 256#32
  let v177 : BitVec 32 := Scalar.muli arg13 c256_i32_89
  let v178 : BitVec 32 := v177
  let v188 : Index := Scalar.indexCast v178
  ![0, 0, v188.toNat]
def k0_cond1 (i : grid0.Coords) (v2 : BitVec 32) : BitVec 1 :=
  let arg1 : BitVec 32 := BitVec.ofNat 32 (i 1).val
  let c4_i32 : BitVec 32 := 4#32
  let v0 : BitVec 32 := Scalar.muli arg1 c4_i32
  let v21 : BitVec 1 := Scalar.cmpi .sge v0 v2
  let v22 : BitVec 32 := Scalar.extui v21
  let c0_i32_5 : BitVec 32 := 0#32
  let v23 : BitVec 1 := Scalar.cmpi .ne v22 c0_i32_5
  v23

def k0_cond2 (i : grid0.Coords) (v2 : BitVec 32) : BitVec 1 :=
  let arg1 : BitVec 32 := BitVec.ofNat 32 (i 1).val
  let c4_i32 : BitVec 32 := 4#32
  let v0 : BitVec 32 := Scalar.muli arg1 c4_i32
  let v24 : BitVec 1 := Scalar.cmpi .slt v0 v2
  let v25 : BitVec 32 := Scalar.extui v24
  let c0_i32_6 : BitVec 32 := 0#32
  let v26 : BitVec 1 := Scalar.cmpi .ne v25 c0_i32_6
  v26

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x128x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2816x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2816 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2816x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2816x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S2x2816x128x512 : Shape := ⟨4, ![2, 2816, 128, 512]⟩
abbrev S2x2816x128 : Shape := ⟨3, ![2, 2816, 128]⟩
abbrev S2x2816x128x64 : Shape := ⟨4, ![2, 2816, 128, 64]⟩
abbrev S2x2816x512 : Shape := ⟨3, ![2, 2816, 512]⟩
abbrev S2x2816 : Shape := ⟨2, ![2, 2816]⟩
abbrev S2x2816x64 : Shape := ⟨3, ![2, 2816, 64]⟩
abbrev S2 : Shape := ⟨1, ![2]⟩
abbrev S2x704x4x128 : Shape := ⟨4, ![2, 704, 4, 128]⟩
abbrev S1 : Shape := ⟨1, ![1]⟩
abbrev S2x2816x128x2816 : Shape := ⟨4, ![2, 2816, 128, 2816]⟩
abbrev S2x2816x128x1 : Shape := ⟨4, ![2, 2816, 128, 1]⟩
abbrev S2x1x1x2816 : Shape := ⟨4, ![2, 1, 1, 2816]⟩
abbrev S1x2816 : Shape := ⟨2, ![1, 2816]⟩
abbrev S2816 : Shape := ⟨1, ![2816]⟩
abbrev S2816x1 : Shape := ⟨2, ![2816, 1]⟩
abbrev S2816x2816 : Shape := ⟨2, ![2816, 2816]⟩
abbrev S1x2816x1x2816 : Shape := ⟨4, ![1, 2816, 1, 2816]⟩
abbrev S2x1 : Shape := ⟨2, ![2, 1]⟩
abbrev S2x2816x1x1 : Shape := ⟨4, ![2, 2816, 1, 1]⟩
abbrev S2x2816x1 : Shape := ⟨3, ![2, 2816, 1]⟩

abbrev nBuf : Space → Nat
  | .hbm => 9
  | .vmem => 8
  | .smem => 1
  | _ => 0

abbrev bufTy : (tb : Table) → Fin (tcTables nBuf tb) → BufTy
  | .hbm, ⟨0, _⟩ => ⟨S2x2816x128x512, .fp8e4m3⟩
  | .hbm, ⟨1, _⟩ => ⟨S2x2816x128, .f32⟩
  | .hbm, ⟨2, _⟩ => ⟨S2x2816x128x64, .bf16⟩
  | .hbm, ⟨3, _⟩ => ⟨S2x2816x512, .fp8e4m3⟩
  | .hbm, ⟨4, _⟩ => ⟨S2x2816, .f32⟩
  | .hbm, ⟨5, _⟩ => ⟨S2x2816x64, .bf16⟩
  | .hbm, ⟨6, _⟩ => ⟨S2, .i32⟩
  | .hbm, ⟨7, _⟩ => ⟨S2x2816x128x512, .bf16⟩
  | .hbm, ⟨8, _⟩ => ⟨S2x704x4x128, .f32⟩
  | .local _ .vmem, ⟨0, _⟩ => ⟨S2x2816x128x512, .fp8e4m3⟩
  | .local _ .vmem, ⟨1, _⟩ => ⟨S2x2816x128, .f32⟩
  | .local _ .vmem, ⟨2, _⟩ => ⟨S2x2816x128x64, .bf16⟩
  | .local _ .vmem, ⟨3, _⟩ => ⟨S2x2816x512, .fp8e4m3⟩
  | .local _ .vmem, ⟨4, _⟩ => ⟨S2x2816, .f32⟩
  | .local _ .vmem, ⟨5, _⟩ => ⟨S2x2816x64, .bf16⟩
  | .local _ .vmem, ⟨6, _⟩ => ⟨S2x2816x128x512, .bf16⟩
  | .local _ .vmem, ⟨7, _⟩ => ⟨S2x704x4x128, .f32⟩
  | .local _ .smem, ⟨0, _⟩ => ⟨S2, .i32⟩
  | _, _ => ⟨S2x2816x128x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2816x128x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2816x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2816x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2816x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2816x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2816x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x704x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Points.lean ====
/- The pipeline's schedule for `Kernel`'s region, window by window: which points fetch or flush a block, and the body as
   one point calls it. -/
module

public import proofs.«01_k».proof.Proof.Gen.Kernel
public import Idealize.ShloMosaic.Lib.Pipeline.Kit

@[expose] public section

noncomputable section

namespace Cert.Kernel.Attend

open Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%arg3)) is fetched at the points ≡ 0 (mod 704), at any contents of the tables (its index map reads none). -/
theorem fetch0_3 (a : (pcfg0 (F := F)).Adm) : ∀ t : Fin (cfg0 a).N, ((cfg0 a).win 3).fetch t = true ↔ t.val % 704 = 0 :=
  (fun t => Pipeline.Window.fetchOf_reads cc0_transform_3 reads0_3 hreads0_3 0 (by decide) (by decide) (Pipeline.Window.sep_of_coord cc0_transform_3 0 0 (fun _ => rfl) (by decide)) (P := 704) (by decide) t : ∀ t : Fin grid0.N, Pipeline.Window.fetchOf grid0 false cc0_transform_3 t = true ↔ t.val % 704 = 0)
/-- Window 4 (operand 5 (%1)) is fetched at the points ≡ 0 (mod 704), at any contents of the tables (its index map reads none). -/
theorem fetch0_4 (a : (pcfg0 (F := F)).Adm) : ∀ t : Fin (cfg0 a).N, ((cfg0 a).win 4).fetch t = true ↔ t.val % 704 = 0 :=
  (fun t => Pipeline.Window.fetchOf_reads cc0_transform_4 reads0_4 hreads0_4 0 (by decide) (by decide) (Pipeline.Window.sep_of_coord cc0_transform_4 0 0 (fun _ => rfl) (by decide)) (P := 704) (by decide) t : ∀ t : Fin grid0.N, Pipeline.Window.fetchOf grid0 false cc0_transform_4 t = true ↔ t.val % 704 = 0)
/-- Window 5 (operand 6 (%3)) is fetched at the points ≡ 0 (mod 704), at any contents of the tables (its index map reads none). -/
theorem fetch0_5 (a : (pcfg0 (F := F)).Adm) : ∀ t : Fin (cfg0 a).N, ((cfg0 a).win 5).fetch t = true ↔ t.val % 704 = 0 :=
  (fun t => Pipeline.Window.fetchOf_reads cc0_transform_5 reads0_5 hreads0_5 0 (by decide) (by decide) (Pipeline.Window.sep_of_coord cc0_transform_5 0 0 (fun _ => rfl) (by decide)) (P := 704) (by decide) t : ∀ t : Fin grid0.N, Pipeline.Window.fetchOf grid0 false cc0_transform_5 t = true ↔ t.val % 704 = 0)
/-- Window 6 (operand 7 (%arg5)) is fetched at the points ≡ 0 (mod 704), at any contents of the tables (its index map reads none). -/
theorem fetch0_6 (a : (pcfg0 (F := F)).Adm) : ∀ t : Fin (cfg0 a).N, ((cfg0 a).win 6).fetch t = true ↔ t.val % 704 = 0 :=
  (fun t => Pipeline.Window.fetchOf_reads cc0_transform_6 reads0_6 hreads0_6 0 (by decide) (by decide) (Pipeline.Window.sep_of_coord cc0_transform_6 0 0 (fun _ => rfl) (by decide)) (P := 704) (by decide) t : ∀ t : Fin grid0.N, Pipeline.Window.fetchOf grid0 false cc0_transform_6 t = true ↔ t.val % 704 = 0)
/-- Window 7 (result 0 (%4#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 1 (%4#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.Kernel.Attend

end
-- ==== Proof.Kernel.Runs.lean ====
/- What the region of `Kernel` finds and leaves: the arrays after the host prefix, the table of lengths, the block each
   input window holds at a point, and the frame claim read off the region's post. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Attend

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (by decide : main_arg4 ∈ Pipeline.restRefs sig spec0)).trans (V_main_arg4 m c),
      (Pipeline.RDat.FramePost.arr_in h c 6 rfl).trans ((hA c 6).trans (V_main_arg5 m c)),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x128x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x128x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x2816 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2816x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2816x64 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x128x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x4x128 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S2816x512 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Attend

end
-- ==== Proof.Kernel.Body.lean ====
/- The body of `Kernel`'s kernel run once, at any point and on any staging buffers: the inputs and the table of lengths
   come back as they were, the outputs and the scratch at some contents. -/
module

public import proofs.«01_k».proof.Proof.Kernel.Runs
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Attend

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A conditional runs as both of its branches do. -/
theorem wp_cases {C : Prop} {_ : Decidable C} (H : sProp 𝕄) (c : Dev nD) (E : Set ℕ) (K : PUnit → sProp 𝕄)
    {p : C → Prog (TpuEff nD τ sig (Elt F) Λ₀ .tc) PUnit} {q : ¬ C → Prog (TpuEff nD τ sig (Elt F) Λ₀ .tc) PUnit}
    (h1 : ∀ h, H ⊢ wp frame (wpE (defs₀ (F := F)) Variants.none c none) E (p h) K)
    (h2 : ∀ h, H ⊢ wp frame (wpE (defs₀ (F := F)) Variants.none c none) E (q h) K) :
    H ⊢ wp frame (wpE (defs₀ (F := F)) Variants.none c none) E (if h : C then p h else q h) K := by
  split
  · exact h1 _
  · exact h2 _

/-- The body's two branches exclude one another: `q0 < length` and `q0 ≥ length`. -/
theorem cond1_of_cond2 {i : grid0.Coords} {w : BitVec 32} (h : k0_cond2 i w = 1#1) : ¬ k0_cond1 i w = 1#1 := by
  have e : ∀ b : Bool, IntOp.cmpi .ne (BitVec.setWidth 32 (BitVec.ofBool b)) 0#32 = BitVec.ofBool b := by decide
  unfold k0_cond2 at h; unfold k0_cond1
  simp only [Scalar.cmpi, Scalar.extui, WordCmp.cmpi_slt_eq, WordCmp.cmpi_sge_eq, e, WordCmp.ofBool_decide_eq_one_iff] at h ⊢
  omega

/-- One of the two branches is taken. -/
theorem cond1_of_not_cond2 {i : grid0.Coords} {w : BitVec 32} (h : ¬ k0_cond2 i w = 1#1) : k0_cond1 i w = 1#1 := by
  have e : ∀ b : Bool, IntOp.cmpi .ne (BitVec.setWidth 32 (BitVec.ofBool b)) 0#32 = BitVec.ofBool b := by decide
  unfold k0_cond2 at h; unfold k0_cond1
  simp only [Scalar.cmpi, Scalar.extui, WordCmp.cmpi_slt_eq, WordCmp.cmpi_sge_eq, e, WordCmp.ofBool_decide_eq_one_iff] at h ⊢
  omega

-- (the run's proof term is large: checking it walks past the default budget)
set_option maxHeartbeats 1000000 in
/-- The body's triple: on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole)
    (x0 : Vec F S1x4x128x512 .fp8e4m3) (x1 : Vec F S1x1x4x128 .f32) (x2 : Vec F S1x4x128x64 .bf16) (x3 : Vec F S1x2816x512 .fp8e4m3) (x4 : Vec F S1x512x2816 .fp8e4m3) (x5 : Vec F S1x2816x128 .f32) (x6 : Vec F S1x2816x64 .bf16) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_attend i tbM0_0 htbM0_0 arg3 harg3 arg4 harg4 arg5 harg5 arg6 harg6 arg7 harg7 arg8 harg8 arg9 harg9 arg10 harg10 arg11 harg11 arg12 harg12) K := by
    intro E K
    simp only [cc0_attend_eq_skeleton]; unfold cc0_attend_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    refine wp_cases _ _ _ _ ?_ ?_
    · intro h2
      have h1 := cond1_of_cond2 h2
      rw [dif_neg h1, dif_neg h1]
      iintro ⟨⟨⟨⟨⟨⟨⟨⟨⟨⟨H0, H1⟩, H2⟩, H3⟩, H4⟩, H5⟩, H6⟩, HS0⟩, HT0⟩, Hk⟩, H7, H8⟩
      sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexact HT0
    · intro h2
      iintro ⟨⟨⟨⟨⟨⟨⟨⟨⟨⟨H0, H1⟩, H2⟩, H3⟩, H4⟩, H5⟩, H6⟩, HS0⟩, HT0⟩, Hk⟩, H7, H8⟩
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexact HT0

end Cert.Kernel.Attend

end
-- ==== Proof.Kernel.Frame.lean ====
/- The frame of `Kernel`: the proof data of its one pipeline with the outputs' contents left unnamed, the body obligation,
   the run and the claim that the arguments end unchanged with every counter at zero. -/
module

public import proofs.«01_k».proof.Proof.Kernel.Body
public import Idealize.ShloMosaic.Lib.Claim

@[expose] public section

-- membership in a rectangle of production extents (`View.cover_of_tiled`): the elaborator's structural look
-- recurses once per coordinate of the long axes
set_option maxRecDepth 16384

noncomputable section

namespace Cert.Kernel.Attend

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HT0]; · iexact HT0
  iintro ⟨H0, H1, H2, H3, H4, H5, H6, H7, H8, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Attend

end
-- ==== Proof.KernelIdeal.Points.lean ====
/- The pipeline's schedule for `KernelIdeal`'s region, window by window: which points fetch or flush a block, and the body as
   one point calls it. -/
module

public import proofs.«01_k».proof.Proof.Gen.KernelIdeal
public import Idealize.ShloMosaic.Lib.Pipeline.Kit

@[expose] public section

noncomputable section

namespace Cert.KernelIdeal.Attend

open Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%arg3)) is fetched at the points ≡ 0 (mod 704), at any contents of the tables (its index map reads none). -/
theorem fetch0_3 (a : (pcfg0 (F := F)).Adm) : ∀ t : Fin (cfg0 a).N, ((cfg0 a).win 3).fetch t = true ↔ t.val % 704 = 0 :=
  (fun t => Pipeline.Window.fetchOf_reads cc0_transform_3 reads0_3 hreads0_3 0 (by decide) (by decide) (Pipeline.Window.sep_of_coord cc0_transform_3 0 0 (fun _ => rfl) (by decide)) (P := 704) (by decide) t : ∀ t : Fin grid0.N, Pipeline.Window.fetchOf grid0 false cc0_transform_3 t = true ↔ t.val % 704 = 0)
/-- Window 4 (operand 5 (%1)) is fetched at the points ≡ 0 (mod 704), at any contents of the tables (its index map reads none). -/
theorem fetch0_4 (a : (pcfg0 (F := F)).Adm) : ∀ t : Fin (cfg0 a).N, ((cfg0 a).win 4).fetch t = true ↔ t.val % 704 = 0 :=
  (fun t => Pipeline.Window.fetchOf_reads cc0_transform_4 reads0_4 hreads0_4 0 (by decide) (by decide) (Pipeline.Window.sep_of_coord cc0_transform_4 0 0 (fun _ => rfl) (by decide)) (P := 704) (by decide) t : ∀ t : Fin grid0.N, Pipeline.Window.fetchOf grid0 false cc0_transform_4 t = true ↔ t.val % 704 = 0)
/-- Window 5 (operand 6 (%3)) is fetched at the points ≡ 0 (mod 704), at any contents of the tables (its index map reads none). -/
theorem fetch0_5 (a : (pcfg0 (F := F)).Adm) : ∀ t : Fin (cfg0 a).N, ((cfg0 a).win 5).fetch t = true ↔ t.val % 704 = 0 :=
  (fun t => Pipeline.Window.fetchOf_reads cc0_transform_5 reads0_5 hreads0_5 0 (by decide) (by decide) (Pipeline.Window.sep_of_coord cc0_transform_5 0 0 (fun _ => rfl) (by decide)) (P := 704) (by decide) t : ∀ t : Fin grid0.N, Pipeline.Window.fetchOf grid0 false cc0_transform_5 t = true ↔ t.val % 704 = 0)
/-- Window 6 (operand 7 (%arg5)) is fetched at the points ≡ 0 (mod 704), at any contents of the tables (its index map reads none). -/
theorem fetch0_6 (a : (pcfg0 (F := F)).Adm) : ∀ t : Fin (cfg0 a).N, ((cfg0 a).win 6).fetch t = true ↔ t.val % 704 = 0 :=
  (fun t => Pipeline.Window.fetchOf_reads cc0_transform_6 reads0_6 hreads0_6 0 (by decide) (by decide) (Pipeline.Window.sep_of_coord cc0_transform_6 0 0 (fun _ => rfl) (by decide)) (P := 704) (by decide) t : ∀ t : Fin grid0.N, Pipeline.Window.fetchOf grid0 false cc0_transform_6 t = true ↔ t.val % 704 = 0)
/-- Window 7 (result 0 (%4#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 1 (%4#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.KernelIdeal.Attend

end
-- ==== Proof.KernelIdeal.Runs.lean ====
/- What the region of `KernelIdeal` finds and leaves: the arrays after the host prefix, the table of lengths, the block each
   input window holds at a point, and the frame claim read off the region's post. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (by decide : main_arg4 ∈ Pipeline.restRefs sig spec0)).trans (V_main_arg4 m c),
      (Pipeline.RDat.FramePost.arr_in h c 6 rfl).trans ((hA c 6).trans (V_main_arg5 m c)),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x128x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x128x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x2816 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2816x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2816x64 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x128x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x4x128 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S2816x512 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Attend

end
-- ==== Proof.KernelIdeal.Body.lean ====
/- The body of `KernelIdeal`'s kernel run once, at any point and on any staging buffers: the inputs and the table of lengths
   come back as they were, the outputs and the scratch at some contents. -/
module

public import proofs.«01_k».proof.Proof.KernelIdeal.Runs
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A conditional runs as both of its branches do. -/
theorem wp_cases {C : Prop} {_ : Decidable C} (H : sProp 𝕄) (c : Dev nD) (E : Set ℕ) (K : PUnit → sProp 𝕄)
    {p : C → Prog (TpuEff nD τ sig (Elt F) Λ₀ .tc) PUnit} {q : ¬ C → Prog (TpuEff nD τ sig (Elt F) Λ₀ .tc) PUnit}
    (h1 : ∀ h, H ⊢ wp frame (wpE (defs₀ (F := F)) Variants.none c none) E (p h) K)
    (h2 : ∀ h, H ⊢ wp frame (wpE (defs₀ (F := F)) Variants.none c none) E (q h) K) :
    H ⊢ wp frame (wpE (defs₀ (F := F)) Variants.none c none) E (if h : C then p h else q h) K := by
  split
  · exact h1 _
  · exact h2 _

/-- The body's two branches exclude one another: `q0 < length` and `q0 ≥ length`. -/
theorem cond1_of_cond2 {i : grid0.Coords} {w : BitVec 32} (h : k0_cond2 i w = 1#1) : ¬ k0_cond1 i w = 1#1 := by
  have e : ∀ b : Bool, IntOp.cmpi .ne (BitVec.setWidth 32 (BitVec.ofBool b)) 0#32 = BitVec.ofBool b := by decide
  unfold k0_cond2 at h; unfold k0_cond1
  simp only [Scalar.cmpi, Scalar.extui, WordCmp.cmpi_slt_eq, WordCmp.cmpi_sge_eq, e, WordCmp.ofBool_decide_eq_one_iff] at h ⊢
  omega

/-- One of the two branches is taken. -/
theorem cond1_of_not_cond2 {i : grid0.Coords} {w : BitVec 32} (h : ¬ k0_cond2 i w = 1#1) : k0_cond1 i w = 1#1 := by
  have e : ∀ b : Bool, IntOp.cmpi .ne (BitVec.setWidth 32 (BitVec.ofBool b)) 0#32 = BitVec.ofBool b := by decide
  unfold k0_cond2 at h; unfold k0_cond1
  simp only [Scalar.cmpi, Scalar.extui, WordCmp.cmpi_slt_eq, WordCmp.cmpi_sge_eq, e, WordCmp.ofBool_decide_eq_one_iff] at h ⊢
  omega

-- (the run's proof term is large: checking it walks past the default budget)
set_option maxHeartbeats 1000000 in
/-- The body's triple: on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole)
    (x0 : Vec F S1x4x128x512 .fp8e4m3) (x1 : Vec F S1x1x4x128 .f32) (x2 : Vec F S1x4x128x64 .bf16) (x3 : Vec F S1x2816x512 .fp8e4m3) (x4 : Vec F S1x512x2816 .fp8e4m3) (x5 : Vec F S1x2816x128 .f32) (x6 : Vec F S1x2816x64 .bf16) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_attend i tbM0_0 htbM0_0 arg3 harg3 arg4 harg4 arg5 harg5 arg6 harg6 arg7 harg7 arg8 harg8 arg9 harg9 arg10 harg10 arg11 harg11 arg12 harg12) K := by
    intro E K
    simp only [cc0_attend_eq_skeleton]; unfold cc0_attend_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    refine wp_cases _ _ _ _ ?_ ?_
    · intro h2
      have h1 := cond1_of_cond2 h2
      rw [dif_neg h1, dif_neg h1]
      iintro ⟨⟨⟨⟨⟨⟨⟨⟨⟨⟨H0, H1⟩, H2⟩, H3⟩, H4⟩, H5⟩, H6⟩, HS0⟩, HT0⟩, Hk⟩, H7, H8⟩
      sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexact HT0
    · intro h2
      iintro ⟨⟨⟨⟨⟨⟨⟨⟨⟨⟨H0, H1⟩, H2⟩, H3⟩, H4⟩, H5⟩, H6⟩, HS0⟩, HT0⟩, Hk⟩, H7, H8⟩
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexact HT0

end Cert.KernelIdeal.Attend

end
-- ==== Proof.KernelIdeal.Frame.lean ====
/- The frame of `KernelIdeal`: the proof data of its one pipeline with the outputs' contents left unnamed, the body obligation,
   the run and the claim that the arguments end unchanged with every counter at zero. -/
module

public import proofs.«01_k».proof.Proof.KernelIdeal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HT0]; · iexact HT0
  iintro ⟨H0, H1, H2, H3, H4, H5, H6, H7, H8, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Attend

end
-- ==== Proof.Math.Attend.lean ====
/- Attention of one query over its keys, on the extended reals: what the kernel computes block by block and what the
   reference computes at once, each as a function of the query's scores `s`, the keys' scales `cs` and one column `ct` of the
   values. Definitions only. -/
module

public import Idealize.ShloMosaic.PureOps.Ideal
public import Idealize.ShloMosaic.Lib.Pointwise

@[expose] public section

noncomputable section

namespace Attend

open Idealize.ShloMosaic

/-- The largest score of the first `N` keys. -/
def mx (N : ℕ) (s : ℕ → EReal) : EReal := (Finset.range N).sup s

/-- A key's weight before the normalisation: `exp (s k - max)`. -/
def tt (N : ℕ) (s : ℕ → EReal) (k : ℕ) : EReal := Ideal.exp (s k - mx N s)

/-- The sum of the weights. -/
def ll (N : ℕ) (s : ℕ → EReal) : EReal := ∑ k ∈ Finset.range N, tt N s k

/-- The logarithm of the sum of the exponentials. -/
def lse (N : ℕ) (s : ℕ → EReal) : EReal := mx N s + Ideal.log (ll N s)

/-- The largest weight times scale, zero at least. -/
def aa (N : ℕ) (s cs : ℕ → EReal) : EReal := max 0 ((Finset.range N).sup fun k => tt N s k * cs k)

/-- The exponent field of a number that is not negative: the largest `k` with `2 ^ (k - 127) ≤ x` (the word `k <<< 23` read as
    a float). -/
def field (x : EReal) : BitVec 32 :=
  Finset.univ.fold IntOp.maxsi (2147483648#32)
    (fun k : Fin 256 => if Ideal.ofBits FTy.f32 (IntOp.shli ArithUnit.vector (BitVec.ofNat 32 ↑k) 23#32) ≤ x then BitVec.ofNat 32 ↑k else 0#32)

/-- The binary exponent of the quantiser's scale, as the kernel computes it from the largest weight. -/
def expo (a : EReal) : BitVec 32 :=
  if a = 0 then 0#32 else IntOp.subi (field (a * Ideal.ofBits FTy.f32 991054117#32)) 126#32

/-- `2 ^ (-e)` as the kernel makes it from bits. -/
def down (e : BitVec 32) : EReal := Ideal.ofBits FTy.f32 (IntOp.shli ArithUnit.vector (IntOp.subi (127#32) e) 23#32)

/-- `2 ^ e` as the kernel makes it from bits. -/
def up (e : BitVec 32) : EReal := Ideal.ofBits FTy.f32 (IntOp.shli ArithUnit.vector (IntOp.addi e 127#32) 23#32)

/-- The kernel's output element: quantised weights times values, scaled back. -/
def outK (N : ℕ) (s cs ct : ℕ → EReal) : EReal :=
  (∑ k ∈ Finset.range N, ct k * min (Ideal.ofBits FTy.f32 1138753536#32)
      (max 0 (tt N s k * cs k * Ideal.div (down (expo (Ideal.div (aa N s cs) (ll N s)))) (ll N s))))
    * up (expo (Ideal.div (aa N s cs) (ll N s)))

/-- The reference's weight times scale. -/
def ww (N : ℕ) (s cs : ℕ → EReal) (k : ℕ) : EReal := Ideal.exp (s k - lse N s) * cs k

/-- The reference's binary exponent: `floor (log2 (a / 448)) + 1`, zero for `a = 0`. -/
def expoR (a : EReal) : EReal :=
  if a = 0 then 0
  else Ideal.liftRound Int.floor (Ideal.div (Ideal.log (a * Ideal.ofBits FTy.f32 991054117#32)) (Ideal.log (Ideal.ofBits FTy.f32 1073741824#32))) + 1

/-- The reference's output element. -/
def outR (N : ℕ) (s cs ct : ℕ → EReal) : EReal :=
  (∑ k ∈ Finset.range N, min (Ideal.ofBits FTy.f32 1138753536#32)
      (max 0 (ww N s cs k * Ideal.exp2 (0 - expoR ((Finset.range N).sup (ww N s cs))))) * ct k)
    * Ideal.exp2 (expoR ((Finset.range N).sup (ww N s cs)))

/-- A sum over the first `256 (j + 1)` keys is the one over the first `256 j` and the next block's. -/
theorem sum_block (f : ℕ → EReal) (j : ℕ) :
    ∑ k ∈ Finset.range (256 * (j + 1)), f k = (∑ k ∈ Finset.range (256 * j), f k) + ∑ r : Fin 256, f (256 * j + r.val) := by
  rw [Nat.mul_succ, Finset.sum_range_add, Finset.sum_range (fun r => f (256 * j + r))]

/-- The same for the largest. -/
theorem sup_block (f : ℕ → EReal) (j : ℕ) :
    (Finset.range (256 * (j + 1))).sup f = max ((Finset.range (256 * j)).sup f) (Finset.univ.sup fun r : Fin 256 => f (256 * j + r.val)) := by
  apply le_antisymm
  · refine Finset.sup_le fun k hk => ?_
    by_cases h : k < 256 * j
    · exact le_max_of_le_left (Finset.le_sup (f := f) (Finset.mem_range.mpr h))
    · have hk := Finset.mem_range.mp hk
      refine le_max_of_le_right ?_
      have := Finset.le_sup (f := fun r : Fin 256 => f (256 * j + r.val)) (Finset.mem_univ ⟨k - 256 * j, by omega⟩)
      simpa [show 256 * j + (k - 256 * j) = k by omega] using this
  · refine max_le (Finset.sup_mono (Finset.range_subset_range.mpr (by omega))) (Finset.sup_le fun r _ => ?_)
    exact Finset.le_sup (f := f) (Finset.mem_range.mpr (by have := r.isLt; omega))

/-- The pattern of minus infinity. -/
theorem ofBits_ninf : Ideal.ofBits FTy.f32 4286578688#32 = ⊥ := by
  show Ideal.ieee 8 23 (4286578688#32) = ⊥
  unfold Ideal.ieee
  simp

/-- A fold of `max` from minus infinity is the supremum. -/
theorem fold_max {ι : Type} (t : Finset ι) (f : ι → EReal) : Finset.fold max (Ideal.ofBits FTy.f32 4286578688#32) f t = t.sup f := by
  rw [ofBits_ninf]; rfl

end Attend

end
-- ==== Proof.KernelIdeal.Ops.lean ====
/- What each stretch of vector operations of the kernel's body computes, element by element, on the extended reals; and the
   trip counts and offsets of its loops. -/
module

public import proofs.«01_k».proof.Proof.Gen.KernelIdeal.Loops
public import proofs.«01_k».proof.Proof.Math.Attend
public import Idealize.ShloMosaic.Lib.Pointwise

@[expose] public section

set_option maxRecDepth 16384

noncomputable section

namespace Cert.KernelIdeal.Attend

open Cert.KernelIdeal.Gen Cert.KernelIdeal
open Idealize.ShloMosaic Idealize.ShloMosaic.TcCoe Idealize.ShloMosaic.Tactic

/-- The coordinates of a grid point from its two components. -/
def pt (a : Fin 2) (b : Fin 704) : grid0.Coords := fun j => match j with | 0 => a | 1 => b

theorem pt_eq (i : grid0.Coords) : pt (i 0) (i 1) = i := by
  funext j; fin_cases j <;> rfl

/-- The number of key blocks of a grid point. -/
theorem trips1 (i : grid0.Coords) : (k0_t1_loop i).trips = (i 1).val / 64 + 1 :=
  (by decide +kernel : ∀ a : Fin 704, (k0_t1_loop (pt ⟨0, by decide⟩ a)).trips = a.val / 64 + 1) (i 1)

theorem trips3 (i : grid0.Coords) : (k0_t3_loop i).trips = (i 1).val / 64 + 1 :=
  (by decide +kernel : ∀ a : Fin 704, (k0_t3_loop (pt ⟨0, by decide⟩ a)).trips = a.val / 64 + 1) (i 1)

theorem trips5 (i : grid0.Coords) : (k0_t5_loop i).trips = (i 1).val / 64 + 1 :=
  (by decide +kernel : ∀ a : Fin 704, (k0_t5_loop (pt ⟨0, by decide⟩ a)).trips = a.val / 64 + 1) (i 1)

theorem trips2 (i : grid0.Coords) : (k0_t2_loop i).trips = 0 :=
  (by decide +kernel : ∀ a : Fin 704, (k0_t2_loop (pt ⟨0, by decide⟩ a)).trips = 0) (i 1)

theorem trips4 (i : grid0.Coords) : (k0_t4_loop i).trips = 0 :=
  (by decide +kernel : ∀ a : Fin 704, (k0_t4_loop (pt ⟨0, by decide⟩ a)).trips = 0) (i 1)

theorem trips6 (i : grid0.Coords) : (k0_t6_loop i).trips = 0 :=
  (by decide +kernel : ∀ a : Fin 704, (k0_t6_loop (pt ⟨0, by decide⟩ a)).trips = 0) (i 1)

/-- The word of a block's first key. -/
theorem base_toNat {n : ℕ} (hn : n ≤ 11) (k : Fin n) :
    (Scalar.indexCast (Scalar.muli (Scf.iv 0#32 1#32 k) 256#32)).toNat = 256 * k.val :=
  (by decide +kernel : ∀ j : Fin 11, (Scalar.indexCast (Scalar.muli (Scf.iv 0#32 1#32 j) 256#32)).toNat = 256 * j.val) ⟨k.val, by omega⟩

theorem le11 (i : grid0.Coords) : (i 1).val / 64 + 1 ≤ 11 := by
  have : (i 1).val < 704 := (i 1).isLt
  omega

theorem off2 (i : grid0.Coords) (k : Fin (k0_t1_loop i).trips) : k0_off2 i k = ![0, 256 * k.val, 0] := by
  unfold k0_off2; dsimp only; rw [base_toNat (trips1 i ▸ le11 i) k]
theorem off3 (i : grid0.Coords) (k : Fin (k0_t1_loop i).trips) : k0_off3 i k = ![0, 256 * k.val, 0] := by
  unfold k0_off3; dsimp only; rw [base_toNat (trips1 i ▸ le11 i) k]
theorem off4 (i : grid0.Coords) (k : Fin (k0_t1_loop i).trips) : k0_off4 i k = ![0, 256 * k.val, 0] := by
  unfold k0_off4; dsimp only; rw [base_toNat (trips1 i ▸ le11 i) k]
theorem off5 (i : grid0.Coords) (k : Fin (k0_t1_loop i).trips) : k0_off5 i k = ![256 * k.val, 0] := by
  unfold k0_off5; dsimp only; rw [base_toNat (trips1 i ▸ le11 i) k]
theorem off10 (i : grid0.Coords) (k : Fin (k0_t3_loop i).trips) : k0_off10 i k = ![256 * k.val, 0] := by
  unfold k0_off10; dsimp only; rw [base_toNat (trips3 i ▸ le11 i) k]
theorem off11 (i : grid0.Coords) (k : Fin (k0_t3_loop i).trips) : k0_off11 i k = ![0, 256 * k.val, 0] := by
  unfold k0_off11; dsimp only; rw [base_toNat (trips3 i ▸ le11 i) k]
theorem off14 (i : grid0.Coords) (k : Fin (k0_t5_loop i).trips) : k0_off14 i k = ![256 * k.val, 0] := by
  unfold k0_off14; dsimp only; rw [base_toNat (trips5 i ▸ le11 i) k]
theorem off15 (i : grid0.Coords) (k : Fin (k0_t5_loop i).trips) : k0_off15 i k = ![0, 0, 256 * k.val] := by
  unfold k0_off15; dsimp only; rw [base_toNat (trips5 i ▸ le11 i) k]

/-- The column numbers. -/
abbrev lanes : IVec S1x512 32 := iota .tc S1x512 32 [1] iota_S1x512_d1_w32

/-- The token of a column: the point's first token and the column's token in the point. -/
theorem pay10_at (v0 : BitVec 32) (l : Fin 512) :
    k0_pay10 v0 lanes 128#32 k0_pay7 k0_pay8 k0_pay9 (ix2 0 l) = IntOp.addi v0 (BitVec.ofNat 32 (l.val / 128)) := by
  pointwise [k0_pay10, k0_pay7, k0_pay8, k0_pay9, lanes]
  congr 1
  revert l
  decide +kernel

theorem pay11_at (l : Fin 512) : (k0_pay11 : FVec Ideal S1x512 .f32) (ix2 0 l) = ⊥ := by
  pointwise [k0_pay11]
  rfl

theorem pay12_at (i : grid0.Coords) (v0 : BitVec 32) (v29 : FVec Ideal S512x512 .fp8e4m3) (v32 : FVec Ideal S512x64 .bf16) (v41 : FVec Ideal S1x512 .f32) (v42 : IVec S1x512 32) (c128_i32 : BitVec 32) (v44 : IVec S1x512 32) (v51 : IVec S1x512 32) (v57 : IVec S1x512 32) (k : Fin (k0_t1_loop i).trips) (v180 : Vec Ideal S1x256x512 .fp8e4m3) (v184 : Vec Ideal S1x256x64 .bf16) (v188 : Vec Ideal S1x256x1 .f32) (r : Fin 256) (l : Fin 512) :
    k0_pay12 (F := Ideal) i v0 v29 v32 v41 v42 c128_i32 v44 v51 v57 k v180 v184 v188 (ix2 r l)
      = Scalar.select (IntOp.cmpi .sle (IntOp.addi (Scalar.muli (Scf.iv 0#32 1#32 k.val) 256#32) (BitVec.ofNat 32 r.val)) (k0_pay10 v0 v42 c128_i32 v44 v51 v57 (ix2 0 l)))
          (((∑ x : Fin 512, v180 (ix3 0 r x) * v29 (ix2 l x)) * (v188 (ix3 0 r 0) * v41 (ix2 0 l)) + ∑ x : Fin 64, v184 (ix3 0 r x) * v32 (ix2 l x)) * Ideal.ofBits .f32 1033096506#32)
          (⊥ : EReal) := by
  pointwise [k0_pay12]
  rfl

theorem pay13_at (i : grid0.Coords) (v0 : BitVec 32) (v29 : FVec Ideal S512x512 .fp8e4m3) (v32 : FVec Ideal S512x64 .bf16) (v41 : FVec Ideal S1x512 .f32) (v42 : IVec S1x512 32) (c128_i32 : BitVec 32) (v44 : IVec S1x512 32) (v51 : IVec S1x512 32) (v57 : IVec S1x512 32) (k : Fin (k0_t1_loop i).trips) (v180 : Vec Ideal S1x256x512 .fp8e4m3) (v184 : Vec Ideal S1x256x64 .bf16) (v188 : Vec Ideal S1x256x1 .f32) (r : Fin 256) (l : Fin 512) :
    k0_pay13 (F := Ideal) i v0 v29 v32 v41 v42 c128_i32 v44 v51 v57 k v180 v184 v188 (ix2 r l) = k0_pay12 (F := Ideal) i v0 v29 v32 v41 v42 c128_i32 v44 v51 v57 k v180 v184 v188 (ix2 r l) := by
  pointwise [k0_pay13]

theorem pay14_at (i : grid0.Coords) (v0 : BitVec 32) (v29 : FVec Ideal S512x512 .fp8e4m3) (v32 : FVec Ideal S512x64 .bf16) (v41 : FVec Ideal S1x512 .f32) (v42 : IVec S1x512 32) (c128_i32 : BitVec 32) (v44 : IVec S1x512 32) (v51 : IVec S1x512 32) (v57 : IVec S1x512 32) (k : Fin (k0_t1_loop i).trips) (acc : FVec Ideal S1x512 .f32) (v180 : Vec Ideal S1x256x512 .fp8e4m3) (v184 : Vec Ideal S1x256x64 .bf16) (v188 : Vec Ideal S1x256x1 .f32) (l : Fin 512) :
    k0_pay14 (F := Ideal) i v0 v29 v32 v41 v42 c128_i32 v44 v51 v57 k acc v180 v184 v188 (ix2 0 l)
      = max (acc (ix2 0 l)) (Finset.univ.sup fun x : Fin 256 => k0_pay12 (F := Ideal) i v0 v29 v32 v41 v42 c128_i32 v44 v51 v57 k v180 v184 v188 (ix2 x l)) := by
  rw [← Attend.fold_max]
  pointwise [k0_pay14]

theorem pay18_at (l : Fin 512) : (k0_pay18 : FVec Ideal S1x512 .f32) (ix2 0 l) = 0 := by
  pointwise [k0_pay18]

theorem pay21_at (m : FVec Ideal S1x512 .f32) (s : Vec Ideal S256x512 .f32) (v : Vec Ideal S1x256x1 .f32) (r : Fin 256) (l : Fin 512) :
    k0_pay21 (F := Ideal) m s v (ix2 r l) = Ideal.exp (s (ix2 r l) - m (ix2 0 l)) * v (ix3 0 r 0) := by
  pointwise [k0_pay21, k0_pay20, k0_pay19]

theorem pay22_at (m acc : FVec Ideal S1x512 .f32) (s : Vec Ideal S256x512 .f32) (l : Fin 512) :
    k0_pay22 (F := Ideal) m acc s (ix2 0 l) = acc (ix2 0 l) + ∑ x : Fin 256, Ideal.exp (s (ix2 x l) - m (ix2 0 l)) := by
  pointwise [k0_pay22, k0_pay19]

theorem pay23_at (m acc : FVec Ideal S1x512 .f32) (s : Vec Ideal S256x512 .f32) (v : Vec Ideal S1x256x1 .f32) (l : Fin 512) :
    k0_pay23 (F := Ideal) m acc s v (ix2 0 l)
      = max (acc (ix2 0 l)) (Finset.univ.sup fun x : Fin 256 => Ideal.exp (s (ix2 x l) - m (ix2 0 l)) * v (ix3 0 x 0)) := by
  rw [← Attend.fold_max]
  pointwise [k0_pay23, k0_pay20, k0_pay19]

theorem pay29_at (m a : FVec Ideal S1x512 .f32) (l : Fin 512) :
    k0_pay29 (F := Ideal) m a (ix2 0 l) = m (ix2 0 l) + Ideal.log (a (ix2 0 l)) := by
  pointwise [k0_pay29]

theorem pay30_at (a b : FVec Ideal S1x512 .f32) (l : Fin 512) :
    k0_pay30 (F := Ideal) a b (ix2 0 l) = Ideal.div (b (ix2 0 l)) (a (ix2 0 l)) := by
  pointwise [k0_pay30]

theorem pay31_at (a b : FVec Ideal S1x512 .f32) (l : Fin 512) :
    k0_pay31 (F := Ideal) a b (ix2 0 l) = Attend.field (Ideal.div (b (ix2 0 l)) (a (ix2 0 l)) * Ideal.ofBits .f32 991054117#32) := by
  unfold Attend.field
  pointwise [k0_pay31, k0_pay30]

theorem pay32_at (l : Fin 512) : (k0_pay32 : FVec Ideal S1x512 .f32) (ix2 0 l) = 0 := by
  pointwise [k0_pay32]

theorem pay33_at (a b : FVec Ideal S1x512 .f32) (l : Fin 512) :
    k0_pay33 (F := Ideal) (k0_pay30 a b) (k0_pay31 a b) k0_pay32 (ix2 0 l) = Attend.expo (Ideal.div (b (ix2 0 l)) (a (ix2 0 l))) := by
  unfold Attend.expo
  rw [← pay31_at, ← pay30_at]
  pointwise [k0_pay33]
  rw [pay32_at]

theorem pay34_at (a b : FVec Ideal S1x512 .f32) (l : Fin 512) :
    k0_pay34 (F := Ideal) a (k0_pay30 a b) (k0_pay31 a b) k0_pay32 (ix2 0 l)
      = Ideal.div (Attend.down (Attend.expo (Ideal.div (b (ix2 0 l)) (a (ix2 0 l))))) (a (ix2 0 l)) := by
  unfold Attend.down
  rw [← pay33_at]
  pointwise [k0_pay34]

theorem pay35_at (d l : Fin 512) : (k0_pay35 : FVec Ideal S512x512 .f32) (ix2 d l) = 0 := by
  pointwise [k0_pay35]

theorem pay36_at (a b : FVec Ideal S1x512 .f32) (acc : FVec Ideal S512x512 .f32) (v180 : Vec Ideal S256x512 .f32) (v189 : Vec Ideal S1x512x256 .fp8e4m3) (d l : Fin 512) :
    k0_pay36 (F := Ideal) a (k0_pay30 a b) (k0_pay31 a b) k0_pay32 acc v180 v189 (ix2 d l)
      = acc (ix2 d l) + ∑ x : Fin 256, v189 (ix3 0 d x) * min (Ideal.ofBits .f32 1138753536#32) (max 0 (v180 (ix2 x l)
          * Ideal.div (Attend.down (Attend.expo (Ideal.div (b (ix2 0 l)) (a (ix2 0 l))))) (a (ix2 0 l)))) := by
  simp only [← pay34_at]
  pointwise [k0_pay36]

theorem pay38_at (v2 : Elt Ideal .i32) (v68 : IVec S1x512 32) (a b : FVec Ideal S1x512 .f32) (v124 : FVec Ideal S512x512 .f32) (d l : Fin 512) :
    k0_pay38 (F := Ideal) v2 v68 (k0_pay30 a b) (k0_pay31 a b) k0_pay32 v124 (ix2 d l)
      = Scalar.select (IntOp.cmpi .slt (v68 (ix2 0 l)) v2) (v124 (ix2 d l) * Attend.up (Attend.expo (Ideal.div (b (ix2 0 l)) (a (ix2 0 l))))) (0 : EReal) := by
  unfold Attend.up
  rw [← pay33_at]
  pointwise [k0_pay38]

theorem pay39_at (v2 : Elt Ideal .i32) (v68 : IVec S1x512 32) (v86 : FVec Ideal S1x512 .f32) (l : Fin 512) :
    k0_pay39 (F := Ideal) v2 v68 v86 (ix2 0 l) = Scalar.select (IntOp.cmpi .slt (v68 (ix2 0 l)) v2) (v86 (ix2 0 l)) (0 : EReal) := by
  pointwise [k0_pay39]

theorem pay40_at (v2 : Elt Ideal .i32) (v68 : IVec S1x512 32) (v87 : FVec Ideal S1x512 .f32) (v99 : IVec S1x512 32) (v100 : FVec Ideal S1x512 .f32) (v124 : FVec Ideal S512x512 .f32) (h : Fin 128) (d : Fin 512) :
    k0_pay40 (F := Ideal) v2 v68 v87 v99 v100 v124 (ix4 0 0 h d) = k0_pay38 (F := Ideal) v2 v68 v87 v99 v100 v124 (ix2 d ⟨h.val, by omega⟩) := by
  pointwise [k0_pay40]

theorem pay42_at (v : FVec Ideal S512x512 .f32) (h : Fin 128) (d : Fin 512) :
    k0_pay42 (F := Ideal) v (ix4 0 0 h d) = v (ix2 d ⟨128 + h.val, by omega⟩) := by
  pointwise [k0_pay42]

theorem pay44_at (v : FVec Ideal S512x512 .f32) (h : Fin 128) (d : Fin 512) :
    k0_pay44 (F := Ideal) v (ix4 0 0 h d) = v (ix2 d ⟨256 + h.val, by omega⟩) := by
  pointwise [k0_pay44]

theorem pay46_at (v : FVec Ideal S512x512 .f32) (h : Fin 128) (d : Fin 512) :
    k0_pay46 (F := Ideal) v (ix4 0 0 h d) = v (ix2 d ⟨384 + h.val, by omega⟩) := by
  pointwise [k0_pay46]

theorem pay41_at (v : FVec Ideal S1x512 .f32) (h : Fin 128) :
    k0_pay41 (F := Ideal) v (ix4 0 0 0 h) = v (ix2 0 ⟨h.val, by omega⟩) := by
  pointwise [k0_pay41]

theorem pay43_at (v : FVec Ideal S1x512 .f32) (h : Fin 128) :
    k0_pay43 (F := Ideal) v (ix4 0 0 0 h) = v (ix2 0 ⟨128 + h.val, by omega⟩) := by
  pointwise [k0_pay43]

theorem pay45_at (v : FVec Ideal S1x512 .f32) (h : Fin 128) :
    k0_pay45 (F := Ideal) v (ix4 0 0 0 h) = v (ix2 0 ⟨256 + h.val, by omega⟩) := by
  pointwise [k0_pay45]

theorem pay3_at (v : FVec Ideal S1x512 .f32) (h : Fin 128) :
    k0_pay3 (F := Ideal) v (ix4 0 0 0 h) = v (ix2 0 ⟨384 + h.val, by omega⟩) := by
  pointwise [k0_pay3]

theorem pay4_at (v : Vec Ideal S1x4x128x512 .fp8e4m3) (l c : Fin 512) :
    k0_pay4 (F := Ideal) v (ix2 l c) = v (ix4 0 ⟨l.val / 128, by omega⟩ ⟨l.val % 128, by omega⟩ c) := by
  pointwise [k0_pay4]

theorem pay5_at (v : Vec Ideal S1x4x128x64 .bf16) (l : Fin 512) (c : Fin 64) :
    k0_pay5 (F := Ideal) v (ix2 l c) = v (ix4 0 ⟨l.val / 128, by omega⟩ ⟨l.val % 128, by omega⟩ c) := by
  pointwise [k0_pay5]

theorem pay6_at (v33 : Vec Ideal S1x1x1x128 .f32) (v35 : Vec Ideal S1x1x1x128 .f32) (v37 : Vec Ideal S1x1x1x128 .f32) (v39 : Vec Ideal S1x1x1x128 .f32) (x : Vec Ideal S1x1x4x128 .f32)
    (h0 : ∀ h, v33 (ix4 0 0 0 h) = x (ix4 0 0 0 h)) (h1 : ∀ h, v35 (ix4 0 0 0 h) = x (ix4 0 0 1 h))
    (h2 : ∀ h, v37 (ix4 0 0 0 h) = x (ix4 0 0 2 h)) (h3 : ∀ h, v39 (ix4 0 0 0 h) = x (ix4 0 0 3 h)) (l : Fin 512) :
    k0_pay6 (F := Ideal) v33 v35 v37 v39 (ix2 0 l) = x (ix4 0 0 ⟨l.val / 128, by omega⟩ ⟨l.val % 128, by omega⟩) := by
  pointwise [k0_pay6]
  split
  · rw [h0]
    congr 1; ext j; fin_cases j <;> simp <;> omega
  split
  · rw [h1]
    congr 1; ext j; fin_cases j <;> simp <;> omega
  split
  · rw [h2]
    congr 1; ext j; fin_cases j <;> simp <;> omega
  · rw [h3]
    congr 1; ext j; fin_cases j <;> simp <;> omega

end Cert.KernelIdeal.Attend

end
-- ==== Proof.KernelIdeal.Loops.lean ====
/- The three loops of the kernel's body, each as a recursion over its blocks of 256 keys, read element by element on the
   extended reals: the scores and their maximum, the weights with their sum and the largest weight times scale, and the product
   of the quantised weights with the values. -/
module

public import proofs.«01_k».proof.Proof.KernelIdeal.Ops

@[expose] public section

set_option maxRecDepth 16384

noncomputable section

namespace Cert.KernelIdeal.Attend

open Cert.KernelIdeal.Gen Cert.KernelIdeal
open Idealize.ShloMosaic Idealize.ShloMosaic.TcCoe Idealize.ShloMosaic.Tactic
open Idealize.SL Idealize.SL.RA Idealize.SL.BI Idealize.SL.Sem

variable (𝒱 : Variants) (c : Dev nD) (bd : Option 𝒱.V) (i : grid0.Coords) (arg2 : Memref sig .tc .smem S2 .i32) (harg2 : arg2.IsWhole) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole)
variable (v0 : BitVec 32) (v20 : BitVec 32) (v29 : FVec Ideal S512x512 .fp8e4m3) (v32 : FVec Ideal S512x64 .bf16) (v41 : FVec Ideal S1x512 .f32) (v42 : IVec S1x512 32) (c128 : BitVec 32) (v44 : IVec S1x512 32) (v51 : IVec S1x512 32) (v57 : IVec S1x512 32)
variable (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X12 G f : BufTy.Contents (Elt Ideal) arg12.view.ty)

/-- The block's latent codes, rope keys and scales as the loop reads them. -/
abbrev ld6 (k : Fin (k0_t1_loop i).trips) : Vec Ideal S1x256x512 .fp8e4m3 :=
  View.readAt (Elt Ideal) arg6.view (Rect.unit (s := S1x2816x512) (k0_off2 i k) S1x256x512.size (k0_off2_inb i k)).toLoadRect X6
abbrev ld9 (k : Fin (k0_t1_loop i).trips) : Vec Ideal S1x256x64 .bf16 :=
  View.readAt (Elt Ideal) arg9.view (Rect.unit (s := S1x2816x64) (k0_off3 i k) S1x256x64.size (k0_off3_inb i k)).toLoadRect X9
abbrev ld8 (k : Fin (k0_t1_loop i).trips) : Vec Ideal S1x256x1 .f32 :=
  View.readAt (Elt Ideal) arg8.view (Rect.unit (s := S1x2816x128) (k0_off4 i k) S1x256x1.size (k0_off4_inb i k)).toLoadRect X8
abbrev ld12 (k : Fin (k0_t3_loop i).trips) : Vec Ideal S256x512 .f32 :=
  View.readAt (Elt Ideal) arg12.view (Rect.unit (s := S2816x512) (k0_off10 i k) S256x512.size (k0_off10_inb i k)).toLoadRect f
abbrev ld8' (k : Fin (k0_t3_loop i).trips) : Vec Ideal S1x256x1 .f32 :=
  View.readAt (Elt Ideal) arg8.view (Rect.unit (s := S1x2816x128) (k0_off11 i k) S1x256x1.size (k0_off11_inb i k)).toLoadRect X8
abbrev ld12' (k : Fin (k0_t5_loop i).trips) : Vec Ideal S256x512 .f32 :=
  View.readAt (Elt Ideal) arg12.view (Rect.unit (s := S2816x512) (k0_off14 i k) S256x512.size (k0_off14_inb i k)).toLoadRect X12
abbrev ld7 (k : Fin (k0_t5_loop i).trips) : Vec Ideal S1x512x256 .fp8e4m3 :=
  View.readAt (Elt Ideal) arg7.view (Rect.unit (s := S1x512x2816) (k0_off15 i k) S1x512x256.size (k0_off15_inb i k)).toLoadRect X7

theorem tripR1 (k : Fin (k0_t1_loop i).trips) (acc : FVec Ideal S1x512 .f32) :
    tripR_k0_t1 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 X6 X8 X9 k acc
      = k0_pay14 i v0 v29 v32 v41 v42 c128 v44 v51 v57 k acc (ld6 i arg6 X6 k) (ld9 i arg9 X9 k) (ld8 i arg8 X8 k) := by
  unfold tripR_k0_t1 trip_k0_t1; rfl

theorem tripL1 (k : Fin (k0_t1_loop i).trips) (acc : FVec Ideal S1x512 .f32) :
    tripL_k0_t1 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 X6 X8 X9 k acc
      = [⟨Rect.unit (s := S2816x512) (k0_off5 i k) S256x512.size (k0_off5_inb i k), k0_pay13 i v0 v29 v32 v41 v42 c128 v44 v51 v57 k (ld6 i arg6 X6 k) (ld9 i arg9 X9 k) (ld8 i arg8 X8 k)⟩] := by
  unfold tripL_k0_t1 trip_k0_t1; rfl

theorem tripR3 (m : FVec Ideal S1x512 .f32) (k : Fin (k0_t3_loop i).trips) (acc2 : (FVec Ideal S1x512 .f32) × (FVec Ideal S1x512 .f32)) :
    tripR_k0_t3 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 k acc2 f
      = (k0_pay22 m acc2.1 (ld12 i arg12 f k), k0_pay23 m acc2.2 (ld12 i arg12 f k) (ld8' i arg8 X8 k)) := by
  unfold tripR_k0_t3 trip_k0_t3; rfl

theorem tripL3 (m : FVec Ideal S1x512 .f32) (k : Fin (k0_t3_loop i).trips) (acc2 : (FVec Ideal S1x512 .f32) × (FVec Ideal S1x512 .f32)) :
    tripL_k0_t3 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 k acc2 f
      = [⟨Rect.unit (s := S2816x512) (k0_off10 i k) S256x512.size (k0_off10_inb i k), k0_pay21 m (ld12 i arg12 f k) (ld8' i arg8 X8 k)⟩] := by
  unfold tripL_k0_t3 trip_k0_t3; rfl

theorem tripR5 (v2 : Elt Ideal .i32) (v68 : IVec S1x512 32) (a b v86 : FVec Ideal S1x512 .f32) (k : Fin (k0_t5_loop i).trips) (acc5 : FVec Ideal S512x512 .f32) :
    tripR_k0_t5 (F := Ideal) 𝒱 c bd i arg2 harg2 arg3 harg3 arg4 harg4 arg5 harg5 arg6 harg6 arg7 harg7 arg8 harg8 arg9 harg9 arg10 harg10 arg11 harg11 arg12 harg12 v2 v20 v68 a v86 (k0_pay30 a b) (k0_pay31 a b) k0_pay32 X7 X12 k acc5
      = k0_pay36 a (k0_pay30 a b) (k0_pay31 a b) k0_pay32 acc5 (ld12' i arg12 X12 k) (ld7 i arg7 X7 k) := by
  unfold tripR_k0_t5 trip_k0_t5; rfl

/-- Before block `j` of the first loop: the maximum of the scores of the `256 j` keys gone by, and their scores in the scratch. -/
theorem loop1 (init : FVec Ideal S1x512 .f32) (sc : ℕ → Fin 512 → EReal)
    (hsc : ∀ (k : Fin (k0_t1_loop i).trips) (r : Fin 256) (l : Fin 512),
      k0_pay12 i v0 v29 v32 v41 v42 c128 v44 v51 v57 k (ld6 i arg6 X6 k) (ld9 i arg9 X9 k) (ld8 i arg8 X8 k) (ix2 r l) = sc (256 * k.val + r.val) l)
    (j : ℕ) (hj : j ≤ (k0_t1_loop i).trips) :
    (∀ l, (st_k0_t1 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 X6 X8 X9 init j).1 (ix2 0 l) = max (init (ix2 0 l)) ((Finset.range (256 * j)).sup fun key => sc key l))
    ∧ ∀ (key : Fin 2816) (l : Fin 512), key.val < 256 * j →
        arg12.view.read (Elt Ideal) (arg12.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 X6 X8 X9 init j).2) (ix2 key l) = sc key l := by
  induction j with
  | zero => exact ⟨fun l => by simp [st_k0_t1], fun key l h => by omega⟩
  | succ j ih =>
    obtain ⟨ih1, ih2⟩ := ih (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 X6 X8 X9 init ⟨j, hj⟩
    rw [tripR1, tripL1] at e
    dsimp only at e
    rw [e]
    refine ⟨fun l => ?_, fun key l h => ?_⟩
    · dsimp only
      rw [pay14_at, ih1, Attend.sup_block, max_assoc]
      congr 2
      refine Finset.sup_congr rfl fun x _ => ?_
      exact hsc ⟨j, hj⟩ x l
    · dsimp only [List.cons_append, List.nil_append]
      by_cases hk : key.val < 256 * j
      · rw [View.read_writes_cons_miss_of_axis arg12.view f _ _ (ix2 key l) 0 (256 * j) 256
          (by show k0_off5 i ⟨j, hj⟩ 0 = _; rw [off5]; rfl) rfl rfl (.inl hk)]
        exact ih2 key l hk
      · rw [View.read_writes_cons_hit_of_coords arg12.view f _ _ _ (ix2 ⟨key.val - 256 * j, by omega⟩ l) (ix2 key l)
          (by
            intro a
            show _ = k0_off5 i ⟨j, hj⟩ a + 1 * _
            rw [congrFun (off5 i ⟨j, hj⟩) a]
            fin_cases a
            · show key.val = 256 * j + 1 * (key.val - 256 * j); omega
            · show l.val = 0 + 1 * l.val; omega)]
        rw [pay13_at, hsc]
        congr 1
        show 256 * j + (key.val - 256 * j) = key.val
        omega

/-- Before block `j` of the second loop: the sum of the weights gone by, the largest weight times scale, and the scratch with the
    weights times scales of those keys and the scores of the others. -/
theorem loop3 (m : FVec Ideal S1x512 .f32) (init2 : (FVec Ideal S1x512 .f32) × (FVec Ideal S1x512 .f32)) (n : ℕ) (hn : (k0_t3_loop i).trips = n) (hn11 : n ≤ 11)
    (sc : ℕ → Fin 512 → EReal) (cs : ℕ → EReal)
    (hG : ∀ (key : Fin 2816) (l : Fin 512), key.val < 256 * n → arg12.view.read (Elt Ideal) G (ix2 key l) = sc key l)
    (hcs : ∀ (k : Fin (k0_t3_loop i).trips) (r : Fin 256), ld8' i arg8 X8 k (ix3 0 r 0) = cs (256 * k.val + r.val))
    (j : ℕ) (hj : j ≤ n) :
    (∀ l, (st_k0_t3 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 G init2 j).1.1 (ix2 0 l) = init2.1 (ix2 0 l) + ∑ key ∈ Finset.range (256 * j), Ideal.exp (sc key l - m (ix2 0 l)))
    ∧ (∀ l, (st_k0_t3 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 G init2 j).1.2 (ix2 0 l) = max (init2.2 (ix2 0 l)) ((Finset.range (256 * j)).sup fun key => Ideal.exp (sc key l - m (ix2 0 l)) * cs key))
    ∧ ∀ (key : Fin 2816) (l : Fin 512), key.val < 256 * n →
        arg12.view.read (Elt Ideal) (arg12.view.writes (Elt Ideal) G (st_k0_t3 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 G init2 j).2) (ix2 key l)
          = if key.val < 256 * j then Ideal.exp (sc key l - m (ix2 0 l)) * cs key else sc key l := by
  induction j with
  | zero => exact ⟨fun l => by simp [st_k0_t3], fun l => by simp [st_k0_t3], fun key l h => by simpa [st_k0_t3] using hG key l h⟩
  | succ j ih =>
    obtain ⟨ih1, ih2, ih3⟩ := ih (by omega)
    have hj' : j < (k0_t3_loop i).trips := by omega
    have e := st_k0_t3_succ (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 G init2 ⟨j, hj'⟩
    rw [tripR3, tripL3] at e
    dsimp only at e
    have hs : ∀ (r : Fin 256) (l : Fin 512), ld12 i arg12 (arg12.view.writes (Elt Ideal) G (st_k0_t3 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128 v44 v51 v57 m X8 G init2 j).2) ⟨j, hj'⟩ (ix2 r l) = sc (256 * j + r.val) l := by
      intro r l
      refine Eq.trans (View.readAt_apply ..) ?_
      have hr := r.isLt
      have h := ih3 ⟨256 * j + r.val, by omega⟩ l (by show 256 * j + r.val < _; omega)
      rw [if_neg (by show ¬ 256 * j + r.val < 256 * j; omega)] at h
      rw [← h]
      congr 1
      funext a
      apply Fin.ext
      show k0_off10 i ⟨j, hj'⟩ a + 1 * _ = _
      rw [congrFun (off10 i ⟨j, hj'⟩) a]
      fin_cases a
      · show 256 * j + 1 * r.val = 256 * j + r.val; omega
      · show 0 + 1 * l.val = l.val; omega
    rw [e]
    refine ⟨fun l => ?_, fun l => ?_, fun key l h => ?_⟩
    · dsimp only
      rw [pay22_at, ih1, Attend.sum_block, add_assoc]
      simp only [hs]
    · dsimp only
      rw [pay23_at, ih2, Attend.sup_block, max_assoc]
      simp only [hs, hcs]
    · dsimp only [List.cons_append, List.nil_append]
      by_cases hk : key.val < 256 * j
      · rw [View.read_writes_cons_miss_of_axis arg12.view G _ _ (ix2 key l) 0 (256 * j) 256
          (by show k0_off10 i ⟨j, hj'⟩ 0 = _; rw [off10]; rfl) rfl rfl (.inl hk)]
        rw [ih3 key l h, if_pos hk, if_pos (by omega)]
      · by_cases hk2 : key.val < 256 * (j + 1)
        · rw [View.read_writes_cons_hit_of_coords arg12.view G _ _ _ (ix2 ⟨key.val - 256 * j, by omega⟩ l) (ix2 key l)
            (by
              intro a
              show _ = k0_off10 i ⟨j, hj'⟩ a + 1 * _
              rw [congrFun (off10 i ⟨j, hj'⟩) a]
              fin_cases a
              · show key.val = 256 * j + 1 * (key.val - 256 * j); omega
              · show l.val = 0 + 1 * l.val; omega)]
          have hq : 256 * j + (key.val - 256 * j) = key.val := by omega
          rw [pay21_at, hs, hcs, if_pos hk2]
          dsimp only
          rw [hq]
        · rw [View.read_writes_cons_miss_of_axis arg12.view G _ _ (ix2 key l) 0 (256 * j) 256
            (by show k0_off10 i ⟨j, hj'⟩ 0 = _; rw [off10]; rfl) rfl rfl (.inr (by show _ ≤ key.val; omega))]
          rw [ih3 key l h, if_neg hk, if_neg hk2]

/-- Before block `j` of the third loop: the product of the quantised weights of the `256 j` keys gone by with their values. -/
theorem loop5 (v2 : Elt Ideal .i32) (v68 : IVec S1x512 32) (a b v86 : FVec Ideal S1x512 .f32) (init5 : FVec Ideal S512x512 .f32)
    (w : ℕ → Fin 512 → EReal) (ct : Fin 512 → ℕ → EReal)
    (hw : ∀ (k : Fin (k0_t5_loop i).trips) (r : Fin 256) (l : Fin 512), ld12' i arg12 X12 k (ix2 r l) = w (256 * k.val + r.val) l)
    (hct : ∀ (k : Fin (k0_t5_loop i).trips) (r : Fin 256) (d : Fin 512), ld7 i arg7 X7 k (ix3 0 d r) = ct d (256 * k.val + r.val))
    (j : ℕ) (hj : j ≤ (k0_t5_loop i).trips) (d l : Fin 512) :
    (st_k0_t5 (F := Ideal) 𝒱 c bd i arg2 harg2 arg3 harg3 arg4 harg4 arg5 harg5 arg6 harg6 arg7 harg7 arg8 harg8 arg9 harg9 arg10 harg10 arg11 harg11 arg12 harg12 v2 v20 v68 a v86 (k0_pay30 a b) (k0_pay31 a b) k0_pay32 X7 X12 init5 j) (ix2 d l) = init5 (ix2 d l) + ∑ key ∈ Finset.range (256 * j), ct d key * min (Ideal.ofBits .f32 1138753536#32) (max 0 (w key l
        * Ideal.div (Attend.down (Attend.expo (Ideal.div (b (ix2 0 l)) (a (ix2 0 l))))) (a (ix2 0 l)))) := by
  induction j with
  | zero => simp [st_k0_t5]
  | succ j ih =>
    have ih := ih (by omega)
    have e := st_k0_t5_succ (F := Ideal) 𝒱 c bd i arg2 harg2 arg3 harg3 arg4 harg4 arg5 harg5 arg6 harg6 arg7 harg7 arg8 harg8 arg9 harg9 arg10 harg10 arg11 harg11 arg12 harg12 v2 v20 v68 a v86 (k0_pay30 a b) (k0_pay31 a b) k0_pay32 X7 X12 init5 ⟨j, hj⟩
    rw [tripR5] at e
    dsimp only at e
    rw [e, pay36_at, ih, Attend.sum_block, add_assoc]
    simp only [hw, hct]

end Cert.KernelIdeal.Attend

end
-- ==== Proof.KernelIdeal.Spec.lean ====
/- What the kernel's body leaves in its two output blocks, as a function of the blocks it reads, on the extended reals. -/
module

public import proofs.«01_k».proof.Proof.Gen.KernelIdeal.Skeleton
public import proofs.«01_k».proof.Proof.Math.Attend

@[expose] public section

noncomputable section

namespace Cert.KernelIdeal.Attend

open Cert.KernelIdeal.Gen Cert.KernelIdeal
open Idealize.ShloMosaic Idealize.ShloMosaic.TcCoe

/-- A number as a key; those of the keys are themselves. -/
def fkey (k : ℕ) : Fin 2816 := ⟨k % 2816, Nat.mod_lt _ (by decide)⟩

theorem fkey_of_lt {k : ℕ} (h : k < 2816) : fkey k = ⟨k, h⟩ := Fin.ext (Nat.mod_eq_of_lt h)

/-- The number of keys a grid point visits: the blocks of 256 up to the one of its tokens. -/
def nkeys (i : grid0.Coords) : ℕ := 256 * ((i 1).val / 64 + 1)

section
variable (x0 : Vec Ideal S1x4x128x512 .fp8e4m3) (x1 : Vec Ideal S1x1x4x128 .f32) (x2 : Vec Ideal S1x4x128x64 .bf16)
  (x3 : Vec Ideal S1x2816x512 .fp8e4m3) (x4 : Vec Ideal S1x512x2816 .fp8e4m3) (x5 : Vec Ideal S1x2816x128 .f32) (x6 : Vec Ideal S1x2816x64 .bf16)

/-- The score of key `k` for the query of token `tok`, the point's `τ`-th, and head `h`; minus infinity for a key after the token. -/
def scB (tok : ℕ) (τ : Fin 4) (h : Fin 128) (k : ℕ) : EReal :=
  if k ≤ tok then
    ((∑ x : Fin 512, x3 (ix3 0 (fkey k) x) * x0 (ix4 0 τ h x)) * (x5 (ix3 0 (fkey k) 0) * x1 (ix4 0 0 τ h))
        + ∑ x : Fin 64, x6 (ix3 0 (fkey k) x) * x2 (ix4 0 τ h x)) * Ideal.ofBits .f32 1033096506#32
  else ⊥

/-- The scale of key `k`. -/
def csB (k : ℕ) : EReal := x5 (ix3 0 (fkey k) 0)

/-- Column `d` of the values. -/
def ctB (d : Fin 512) (k : ℕ) : EReal := x4 (ix3 0 d (fkey k))

/-- The output block. -/
def o7 (i : grid0.Coords) (w : BitVec 32) : Vec Ideal S1x4x128x512 .bf16 := fun y =>
  if ((4 * (i 1).val + (y 1).val : ℕ) : ℤ) < w.toInt then
    Attend.outK (nkeys i) (scB x0 x1 x2 x3 x5 x6 (4 * (i 1).val + (y 1).val) (y 1) (y 2)) (csB x5) (ctB x4 (y 3))
  else 0

/-- The block of the logarithms. -/
def o8 (i : grid0.Coords) (w : BitVec 32) : Vec Ideal S1x1x4x128 .f32 := fun y =>
  if ((4 * (i 1).val + (y 2).val : ℕ) : ℤ) < w.toInt then
    Attend.lse (nkeys i) (scB x0 x1 x2 x3 x5 x6 (4 * (i 1).val + (y 2).val) (y 2) (y 3))
  else 0

end

end Cert.KernelIdeal.Attend

end
-- ==== Proof.KernelIdeal.Values.lean ====
/- What the kernel's body computes at a grid point before its stores, column by column, as a function of the blocks it reads. -/
module

public import proofs.«01_k».proof.Proof.KernelIdeal.Loops
public import proofs.«01_k».proof.Proof.KernelIdeal.Spec
public import Idealize.ShloMosaic.Lib.WordCmp

@[expose] public section

set_option maxRecDepth 16384

noncomputable section

namespace Cert.KernelIdeal.Attend

open Cert.KernelIdeal.Gen Cert.KernelIdeal
open Idealize.ShloMosaic Idealize.ShloMosaic.TcCoe Idealize.ShloMosaic.Tactic
open Idealize.SL Idealize.SL.RA Idealize.SL.BI Idealize.SL.Sem

/-- The word of the point's first token. -/
abbrev Q0 (i : grid0.Coords) : BitVec 32 := Scalar.muli (BitVec.ofNat 32 (i 1).val) 4#32
/-- The word of key `r` of block `k`. -/
theorem key_toInt (k : ℕ) (hk : k < 11) (r : Fin 256) :
    (IntOp.addi (Scalar.muli (Scf.iv 0#32 1#32 k) 256#32) (BitVec.ofNat 32 r.val)).toInt = ((256 * k + r.val : ℕ) : ℤ) :=
  (by decide +kernel : ∀ (k : Fin 11) (r : Fin 256), (IntOp.addi (Scalar.muli (Scf.iv 0#32 1#32 k.val) 256#32) (BitVec.ofNat 32 r.val)).toInt = ((256 * k.val + r.val : ℕ) : ℤ)) ⟨k, hk⟩ r

/-- The word of a token of the point. -/
theorem tok_toInt (i : grid0.Coords) (t : ℕ) (ht : t < 4) : (IntOp.addi (Q0 i) (BitVec.ofNat 32 t)).toInt = ((4 * (i 1).val + t : ℕ) : ℤ) :=
  (by decide +kernel : ∀ (a : Fin 704) (t : Fin 4), (IntOp.addi (Scalar.muli (BitVec.ofNat 32 a.val) 4#32) (BitVec.ofNat 32 t.val)).toInt = ((4 * a.val + t.val : ℕ) : ℤ)) (i 1) ⟨t, ht⟩

theorem select_ofBool {α : Type} (p : Prop) [Decidable p] (a b : α) : Scalar.select (BitVec.ofBool (decide p)) a b = if p then a else b := by
  by_cases h : p <;> simp [h, Scalar.select]

/-- The causal mask. -/
theorem select_key (i : grid0.Coords) (k : ℕ) (hk : k < 11) (r : Fin 256) (l : Fin 512) (a b : EReal) :
    Scalar.select (IntOp.cmpi .sle (IntOp.addi (Scalar.muli (Scf.iv 0#32 1#32 k) 256#32) (BitVec.ofNat 32 r.val)) (IntOp.addi (Q0 i) (BitVec.ofNat 32 (l.val / 128)))) a b
      = if 256 * k + r.val ≤ 4 * (i 1).val + l.val / 128 then a else b := by
  rw [WordCmp.cmpi_sle_eq, key_toInt k hk, tok_toInt i _ (by have := l.isLt; omega), select_ofBool]
  simp only [Nat.cast_le]

/-- The mask of the tokens past the sequence's length. -/
theorem select_tok (i : grid0.Coords) (w : BitVec 32) (l : Fin 512) (a b : EReal) :
    Scalar.select (IntOp.cmpi .slt (IntOp.addi (Q0 i) (BitVec.ofNat 32 (l.val / 128))) w) a b
      = if ((4 * (i 1).val + l.val / 128 : ℕ) : ℤ) < w.toInt then a else b := by
  rw [WordCmp.cmpi_slt_eq, tok_toInt i _ (by have := l.isLt; omega), select_ofBool]

variable (𝒱 : Variants) (c : Dev nD) (bd : Option 𝒱.V) (i : grid0.Coords) (arg2 : Memref sig .tc .smem S2 .i32) (harg2 : arg2.IsWhole) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole)
variable (x0 : Vec Ideal S1x4x128x512 .fp8e4m3) (x1 : Vec Ideal S1x1x4x128 .f32) (x2 : Vec Ideal S1x4x128x64 .bf16)
  (x3 : Vec Ideal S1x2816x512 .fp8e4m3) (x4 : Vec Ideal S1x512x2816 .fp8e4m3) (x5 : Vec Ideal S1x2816x128 .f32) (x6 : Vec Ideal S1x2816x64 .bf16)

/-! The blocks of the inputs that the loops read. -/

theorem ld6_at (k : Fin (k0_t1_loop i).trips) (r : Fin 256) (x : Fin 512) : ld6 i arg6 (harg6.unread x3) k (ix3 0 r x) = x3 (ix3 0 (fkey (256 * k.val + r.val)) x) := by
  have hk : k.val < 11 := lt_of_lt_of_le k.isLt (trips1 i ▸ le11 i)
  have hr := r.isLt
  refine Eq.trans (View.readAt_apply ..) ((congrFun (harg6.read_unread x3) _).trans (congrArg x3 ?_))
  rw [fkey_of_lt (by omega)]
  funext a
  apply Fin.ext
  show k0_off2 i k a + 1 * _ = _
  rw [congrFun (off2 i k) a]
  fin_cases a
  · rfl
  · show 256 * k.val + 1 * r.val = 256 * k.val + r.val; omega
  · show 0 + 1 * x.val = x.val; omega

theorem ld9_at (k : Fin (k0_t1_loop i).trips) (r : Fin 256) (x : Fin 64) : ld9 i arg9 (harg9.unread x6) k (ix3 0 r x) = x6 (ix3 0 (fkey (256 * k.val + r.val)) x) := by
  have hk : k.val < 11 := lt_of_lt_of_le k.isLt (trips1 i ▸ le11 i)
  have hr := r.isLt
  refine Eq.trans (View.readAt_apply ..) ((congrFun (harg9.read_unread x6) _).trans (congrArg x6 ?_))
  rw [fkey_of_lt (by omega)]
  funext a
  apply Fin.ext
  show k0_off3 i k a + 1 * _ = _
  rw [congrFun (off3 i k) a]
  fin_cases a
  · rfl
  · show 256 * k.val + 1 * r.val = 256 * k.val + r.val; omega
  · show 0 + 1 * x.val = x.val; omega

theorem ld8_at (k : Fin (k0_t1_loop i).trips) (r : Fin 256) : ld8 i arg8 (harg8.unread x5) k (ix3 0 r 0) = csB x5 (256 * k.val + r.val) := by
  have hk : k.val < 11 := lt_of_lt_of_le k.isLt (trips1 i ▸ le11 i)
  have hr := r.isLt
  refine Eq.trans (View.readAt_apply ..) ((congrFun (harg8.read_unread x5) _).trans (congrArg x5 (?_ : _ = ix3 0 (fkey (256 * k.val + r.val)) 0)))
  rw [fkey_of_lt (by omega)]
  funext a
  apply Fin.ext
  show k0_off4 i k a + 1 * _ = _
  rw [congrFun (off4 i k) a]
  fin_cases a
  · rfl
  · show 256 * k.val + 1 * r.val = 256 * k.val + r.val; omega
  · rfl

theorem ld8'_at (k : Fin (k0_t3_loop i).trips) (r : Fin 256) : ld8' i arg8 (harg8.unread x5) k (ix3 0 r 0) = csB x5 (256 * k.val + r.val) := by
  have hk : k.val < 11 := lt_of_lt_of_le k.isLt (trips3 i ▸ le11 i)
  have hr := r.isLt
  refine Eq.trans (View.readAt_apply ..) ((congrFun (harg8.read_unread x5) _).trans (congrArg x5 (?_ : _ = ix3 0 (fkey (256 * k.val + r.val)) 0)))
  rw [fkey_of_lt (by omega)]
  funext a
  apply Fin.ext
  show k0_off11 i k a + 1 * _ = _
  rw [congrFun (off11 i k) a]
  fin_cases a
  · rfl
  · show 256 * k.val + 1 * r.val = 256 * k.val + r.val; omega
  · rfl

theorem ld7_at (k : Fin (k0_t5_loop i).trips) (r : Fin 256) (d : Fin 512) : ld7 i arg7 (harg7.unread x4) k (ix3 0 d r) = ctB x4 d (256 * k.val + r.val) := by
  have hk : k.val < 11 := lt_of_lt_of_le k.isLt (trips5 i ▸ le11 i)
  have hr := r.isLt
  refine Eq.trans (View.readAt_apply ..) ((congrFun (harg7.read_unread x4) _).trans (congrArg x4 (?_ : _ = ix3 0 d (fkey (256 * k.val + r.val)))))
  rw [fkey_of_lt (by omega)]
  funext a
  apply Fin.ext
  show k0_off15 i k a + 1 * _ = _
  rw [congrFun (off15 i k) a]
  fin_cases a
  · rfl
  · show 0 + 1 * d.val = d.val; omega
  · show 256 * k.val + 1 * r.val = 256 * k.val + r.val; omega

/-- The values a grid point's stores take: the output's element and the logarithm, for each column `l` (token `l / 128` of the
    point, head `l % 128`). -/
theorem final (v20 : BitVec 32) (w : BitVec 32) (fs : BufTy.Contents (Elt Ideal) arg12.view.ty)
    (q : FVec Ideal S512x512 .fp8e4m3) (hq : ∀ l x : Fin 512, q (ix2 l x) = x0 (ix4 0 ⟨l.val / 128, by omega⟩ ⟨l.val % 128, by omega⟩ x))
    (qr : FVec Ideal S512x64 .bf16) (hqr : ∀ (l : Fin 512) (x : Fin 64), qr (ix2 l x) = x2 (ix4 0 ⟨l.val / 128, by omega⟩ ⟨l.val % 128, by omega⟩ x))
    (qs : FVec Ideal S1x512 .f32) (hqs : ∀ l : Fin 512, qs (ix2 0 l) = x1 (ix4 0 0 ⟨l.val / 128, by omega⟩ ⟨l.val % 128, by omega⟩))
    (M : FVec Ideal S1x512 .f32) (hM : M = (st_k0_t1 (F := Ideal) 𝒱 c bd i arg2 harg2 arg3 harg3 arg4 harg4 arg5 harg5 arg6 harg6 arg7 harg7 arg8 harg8 arg9 harg9 arg10 harg10 arg11 harg11 arg12 harg12 (Q0 i) v20 q qr qs lanes (128#32) k0_pay7 k0_pay8 k0_pay9 (harg6.unread x3) (harg8.unread x5) (harg9.unread x6) k0_pay11 (k0_t1_loop i).trips).1)
    (S1 : BufTy.Contents (Elt Ideal) arg12.view.ty) (hS1 : S1 = arg12.view.writes (Elt Ideal) fs (st_k0_t1 (F := Ideal) 𝒱 c bd i arg2 harg2 arg3 harg3 arg4 harg4 arg5 harg5 arg6 harg6 arg7 harg7 arg8 harg8 arg9 harg9 arg10 harg10 arg11 harg11 arg12 harg12 (Q0 i) v20 q qr qs lanes (128#32) k0_pay7 k0_pay8 k0_pay9 (harg6.unread x3) (harg8.unread x5) (harg9.unread x6) k0_pay11 (k0_t1_loop i).trips).2)
    (LA : (FVec Ideal S1x512 .f32) × (FVec Ideal S1x512 .f32)) (hLA : LA = (st_k0_t3 (F := Ideal) 𝒱 c bd i arg2 harg2 arg3 harg3 arg4 harg4 arg5 harg5 arg6 harg6 arg7 harg7 arg8 harg8 arg9 harg9 arg10 harg10 arg11 harg11 arg12 harg12 (Q0 i) v20 q qr qs lanes (128#32) k0_pay7 k0_pay8 k0_pay9 M (harg8.unread x5) S1 (k0_pay18, k0_pay18) (k0_t3_loop i).trips).1)
    (S3 : BufTy.Contents (Elt Ideal) arg12.view.ty) (hS3 : S3 = arg12.view.writes (Elt Ideal) S1 (st_k0_t3 (F := Ideal) 𝒱 c bd i arg2 harg2 arg3 harg3 arg4 harg4 arg5 harg5 arg6 harg6 arg7 harg7 arg8 harg8 arg9 harg9 arg10 harg10 arg11 harg11 arg12 harg12 (Q0 i) v20 q qr qs lanes (128#32) k0_pay7 k0_pay8 k0_pay9 M (harg8.unread x5) S1 (k0_pay18, k0_pay18) (k0_t3_loop i).trips).2)
    (ACC : FVec Ideal S512x512 .f32) (hACC : ACC = st_k0_t5 (F := Ideal) 𝒱 c bd i arg2 harg2 arg3 harg3 arg4 harg4 arg5 harg5 arg6 harg6 arg7 harg7 arg8 harg8 arg9 harg9 arg10 harg10 arg11 harg11 arg12 harg12 w v20 (k0_pay10 (Q0 i) lanes (128#32) k0_pay7 k0_pay8 k0_pay9) LA.1 (k0_pay29 M LA.1) (k0_pay30 LA.1 LA.2) (k0_pay31 LA.1 LA.2) k0_pay32 (harg7.unread x4) S3 k0_pay35 (k0_t5_loop i).trips) :
    (∀ d l : Fin 512, k0_pay38 (F := Ideal) w (k0_pay10 (Q0 i) lanes (128#32) k0_pay7 k0_pay8 k0_pay9) (k0_pay30 LA.1 LA.2) (k0_pay31 LA.1 LA.2) k0_pay32 ACC (ix2 d l)
      = if (((4 * (i 1).val + l.val / 128) : ℕ) : ℤ) < w.toInt then Attend.outK (nkeys i) (scB x0 x1 x2 x3 x5 x6 (4 * (i 1).val + l.val / 128) ⟨l.val / 128, by omega⟩ ⟨l.val % 128, by omega⟩) (csB x5) (ctB x4 d) else 0)
    ∧ (∀ l : Fin 512, k0_pay39 (F := Ideal) w (k0_pay10 (Q0 i) lanes (128#32) k0_pay7 k0_pay8 k0_pay9) (k0_pay29 M LA.1) (ix2 0 l)
      = if (((4 * (i 1).val + l.val / 128) : ℕ) : ℤ) < w.toInt then Attend.lse (nkeys i) (scB x0 x1 x2 x3 x5 x6 (4 * (i 1).val + l.val / 128) ⟨l.val / 128, by omega⟩ ⟨l.val % 128, by omega⟩) else 0) := by
  have h11 := le11 i
  have hsc : ∀ (k : Fin (k0_t1_loop i).trips) (r : Fin 256) (l : Fin 512),
      k0_pay12 (F := Ideal) i (Q0 i) q qr qs lanes (128#32) k0_pay7 k0_pay8 k0_pay9 k (ld6 i arg6 (harg6.unread x3) k) (ld9 i arg9 (harg9.unread x6) k) (ld8 i arg8 (harg8.unread x5) k) (ix2 r l)
        = (scB x0 x1 x2 x3 x5 x6 (4 * (i 1).val + l.val / 128) ⟨l.val / 128, by omega⟩ ⟨l.val % 128, by omega⟩) (256 * k.val + r.val) := by
    intro k r l
    rw [pay12_at, pay10_at, select_key i k.val (lt_of_lt_of_le k.isLt (trips1 i ▸ le11 i))]
    simp only [ld6_at, ld9_at, ld8_at, hq, hqr, hqs]
    rfl
  have e1 := loop1 𝒱 c bd i arg2 harg2 arg3 harg3 arg4 harg4 arg5 harg5 arg6 harg6 arg7 harg7 arg8 harg8 arg9 harg9 arg10 harg10 arg11 harg11 arg12 harg12 (Q0 i) v20 q qr qs lanes (128#32) k0_pay7 k0_pay8 k0_pay9 (harg6.unread x3) (harg8.unread x5) (harg9.unread x6) fs k0_pay11 (fun key l => (scB x0 x1 x2 x3 x5 x6 (4 * (i 1).val + l.val / 128) ⟨l.val / 128, by omega⟩ ⟨l.val % 128, by omega⟩) key) hsc _ le_rfl
  rw [← hM, ← hS1] at e1
  obtain ⟨e1, e1'⟩ := e1
  have hn1 : 256 * (k0_t1_loop i).trips = nkeys i := by rw [trips1]; rfl
  have hn3 : 256 * (k0_t3_loop i).trips = nkeys i := by rw [trips3]; rfl
  have hn5 : 256 * (k0_t5_loop i).trips = nkeys i := by rw [trips5]; rfl
  have hm : ∀ l : Fin 512, M (ix2 0 l) = Attend.mx (nkeys i) (scB x0 x1 x2 x3 x5 x6 (4 * (i 1).val + l.val / 128) ⟨l.val / 128, by omega⟩ ⟨l.val % 128, by omega⟩) := by
    intro l
    rw [e1 l, pay11_at, hn1]
    exact max_eq_right bot_le
  have e3 := loop3 𝒱 c bd i arg2 harg2 arg3 harg3 arg4 harg4 arg5 harg5 arg6 harg6 arg7 harg7 arg8 harg8 arg9 harg9 arg10 harg10 arg11 harg11 arg12 harg12 (Q0 i) v20 q qr qs lanes (128#32) k0_pay7 k0_pay8 k0_pay9 (harg8.unread x5) S1 M (k0_pay18, k0_pay18) (k0_t3_loop i).trips rfl (by rw [trips3]; exact h11) (fun key l => (scB x0 x1 x2 x3 x5 x6 (4 * (i 1).val + l.val / 128) ⟨l.val / 128, by omega⟩ ⟨l.val % 128, by omega⟩) key) (csB x5)
    (fun key l h => e1' key l (by rw [hn1]; rw [hn3] at h; exact h)) (fun k r => ld8'_at i arg8 harg8 x5 k r) _ le_rfl
  rw [← hLA, ← hS3] at e3
  obtain ⟨e3, e3', e3''⟩ := e3
  have hl : ∀ l : Fin 512, LA.1 (ix2 0 l) = Attend.ll (nkeys i) (scB x0 x1 x2 x3 x5 x6 (4 * (i 1).val + l.val / 128) ⟨l.val / 128, by omega⟩ ⟨l.val % 128, by omega⟩) := by
    intro l
    rw [e3 l, hm, hn3]
    dsimp only
    rw [pay18_at, zero_add]
    rfl
  have ha : ∀ l : Fin 512, LA.2 (ix2 0 l) = Attend.aa (nkeys i) (scB x0 x1 x2 x3 x5 x6 (4 * (i 1).val + l.val / 128) ⟨l.val / 128, by omega⟩ ⟨l.val % 128, by omega⟩) (csB x5) := by
    intro l
    rw [e3' l, hm, hn3]
    dsimp only
    rw [pay18_at]
    rfl
  have hw : ∀ (k : Fin (k0_t5_loop i).trips) (r : Fin 256) (l : Fin 512), ld12' i arg12 S3 k (ix2 r l)
      = Attend.tt (nkeys i) (scB x0 x1 x2 x3 x5 x6 (4 * (i 1).val + l.val / 128) ⟨l.val / 128, by omega⟩ ⟨l.val % 128, by omega⟩) (256 * k.val + r.val) * csB x5 (256 * k.val + r.val) := by
    intro k r l
    have hk : k.val < (i 1).val / 64 + 1 := lt_of_lt_of_eq k.isLt (trips5 i)
    have hr := r.isLt
    have h := e3'' ⟨256 * k.val + r.val, by omega⟩ l (by rw [hn3]; show 256 * k.val + r.val < 256 * _; omega)
    rw [if_pos (by rw [hn3]; show 256 * k.val + r.val < 256 * _; omega), hm] at h
    refine Eq.trans (View.readAt_apply ..) (Eq.trans (congrArg _ ?_) h)
    funext a
    apply Fin.ext
    show k0_off14 i k a + 1 * _ = _
    rw [congrFun (off14 i k) a]
    fin_cases a
    · show 256 * k.val + 1 * r.val = 256 * k.val + r.val; omega
    · show 0 + 1 * l.val = l.val; omega
  have e5 := loop5 𝒱 c bd i arg2 harg2 arg3 harg3 arg4 harg4 arg5 harg5 arg6 harg6 arg7 harg7 arg8 harg8 arg9 harg9 arg10 harg10 arg11 harg11 arg12 harg12 v20 (harg7.unread x4) S3 w (k0_pay10 (Q0 i) lanes (128#32) k0_pay7 k0_pay8 k0_pay9) LA.1 LA.2 (k0_pay29 M LA.1) k0_pay35 (fun key l => Attend.tt (nkeys i) (scB x0 x1 x2 x3 x5 x6 (4 * (i 1).val + l.val / 128) ⟨l.val / 128, by omega⟩ ⟨l.val % 128, by omega⟩) key * csB x5 key)
    (ctB x4) hw (fun k r d => ld7_at i arg7 harg7 x4 k r d) _ le_rfl
  rw [← hACC] at e5
  constructor
  · intro d l
    rw [pay38_at, pay10_at, select_tok, e5 d l, pay35_at, zero_add, hn5, hl, ha]
    rfl
  · intro l
    rw [pay39_at, pay10_at, select_tok, pay29_at, hm, hl]
    rfl

end Cert.KernelIdeal.Attend

end
-- ==== Proof.KernelIdeal.BodyValue.lean ====
/- The body of the kernel run once on the extended reals, at any point and on any staging buffers: the inputs and the table of
   lengths come back as they were, and the outputs hold what `Spec.lean` says. -/
module

public import proofs.«01_k».proof.Proof.KernelIdeal.Runs
public import proofs.«01_k».proof.Proof.KernelIdeal.Body
public import proofs.«01_k».proof.Proof.KernelIdeal.Values

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The sequence's length, as the body reads it off the table. -/
def lenW (c : Dev nD) (i : grid0.Coords) (xt0 : TbBuf0 (F := Ideal) c tbM0_0) : BitVec 32 := tbM0_0.view.read (Elt Ideal) xt0 (ix1 (i 0))

theorem off1 (i : grid0.Coords) : k0_off1 i = ![(i 0).val] := by
  unfold k0_off1
  have : ∀ a : Fin 2, (Scalar.indexCast (BitVec.ofNat 32 a.val)).toNat = a.val := by decide
  exact congrArg (fun n => ![n]) (this (i 0))

theorem lenW_eq (c : Dev nD) (i : grid0.Coords) (xt0 : TbBuf0 (F := Ideal) c tbM0_0) (hi) (hf) :
    View.readAt (Elt Ideal) tbM0_0.view (Rect.unit (s := S2) (k0_off1 i) ![1] hi).toLoadRect xt0 (Shape.Idx.first hf) = lenW c i xt0 := by
  refine Eq.trans (View.readAt_apply ..) (congrArg _ ?_)
  funext a
  apply Fin.ext
  show k0_off1 i a + 1 * _ = _
  rw [congrFun (off1 i) a]
  fin_cases a
  rfl

/-- A point that is skipped has no token inside the sequence. -/
theorem not_lt_of_skipped {i : grid0.Coords} {w : BitVec 32} (h : ¬ k0_cond2 i w = 1#1) (t : ℕ) :
    ¬ ((4 * (i 1).val + t : ℕ) : ℤ) < w.toInt := by
  have e : ∀ b : Bool, IntOp.cmpi .ne (BitVec.setWidth 32 (BitVec.ofBool b)) 0#32 = BitVec.ofBool b := by decide
  have q : (Scalar.muli (BitVec.ofNat 32 (i 1).val) 4#32).toInt = ((4 * (i 1).val : ℕ) : ℤ) :=
    (by decide +kernel : ∀ a : Fin 704, (Scalar.muli (BitVec.ofNat 32 a.val) 4#32).toInt = ((4 * a.val : ℕ) : ℤ)) (i 1)
  unfold k0_cond2 at h
  simp only [Scalar.cmpi, Scalar.extui, WordCmp.cmpi_slt_eq, e, WordCmp.ofBool_decide_eq_one_iff] at h
  rw [q] at h
  push_cast at h ⊢
  omega

section
variable (arg10 : Memref sig .tc .vmem S1x4x128x512 .bf16) (arg11 : Memref sig .tc .vmem S1x1x4x128 .f32)
variable (f7 : BufTy.Contents (Elt Ideal) arg10.view.ty) (f8 : BufTy.Contents (Elt Ideal) arg11.view.ty)

theorem coords7 (t : ℕ) (ht : t < 4) (h : Fin 128) (d : Fin 512) (inb) (a : Fin S1x4x128x512.rank) :
    ((ix4 0 ⟨t, ht⟩ h d : S1x4x128x512.Idx) a).val = (Rect.unit (s := S1x4x128x512) ![0, t, 0, 0] S1x1x128x512.size inb).off a
      + (Rect.unit (s := S1x4x128x512) ![0, t, 0, 0] S1x1x128x512.size inb).stride a * ((ix4 0 0 h d : S1x1x128x512.Idx) a).val := by
  fin_cases a
  · rfl
  · show t = t + 1 * 0; omega
  · show h.val = 0 + 1 * h.val; omega
  · show d.val = 0 + 1 * d.val; omega

theorem coords8 (t : ℕ) (ht : t < 4) (h : Fin 128) (inb) (a : Fin S1x1x4x128.rank) :
    ((ix4 0 0 ⟨t, ht⟩ h : S1x1x4x128.Idx) a).val = (Rect.unit (s := S1x1x4x128) ![0, 0, t, 0] S1x1x1x128.size inb).off a
      + (Rect.unit (s := S1x1x4x128) ![0, 0, t, 0] S1x1x1x128.size inb).stride a * ((ix4 0 0 0 h : S1x1x1x128.Idx) a).val := by
  fin_cases a
  · rfl
  · rfl
  · show t = t + 1 * 0; omega
  · show h.val = 0 + 1 * h.val; omega

/-- The four stores of the output block, one per token. -/
theorem read7 (O : Vec Ideal S1x4x128x512 .bf16) (p3 p2 p1 p0 : FVec Ideal S1x1x128x512 .bf16) (i3 i2 i1 i0)
    (h3 : ∀ h d, p3 (ix4 0 0 h d) = O (ix4 0 3 h d)) (h2 : ∀ h d, p2 (ix4 0 0 h d) = O (ix4 0 2 h d))
    (h1 : ∀ h d, p1 (ix4 0 0 h d) = O (ix4 0 1 h d)) (h0 : ∀ h d, p0 (ix4 0 0 h d) = O (ix4 0 0 h d)) :
    arg10.view.read (Elt Ideal) (arg10.view.writes (Elt Ideal) f7
        [⟨Rect.unit (s := S1x4x128x512) ![0, 3, 0, 0] S1x1x128x512.size i3, p3⟩, ⟨Rect.unit (s := S1x4x128x512) ![0, 2, 0, 0] S1x1x128x512.size i2, p2⟩,
          ⟨Rect.unit (s := S1x4x128x512) ![0, 1, 0, 0] S1x1x128x512.size i1, p1⟩, ⟨Rect.unit (s := S1x4x128x512) ![0, 0, 0, 0] S1x1x128x512.size i0, p0⟩]) = O := by
  funext y
  obtain ⟨a, t, h, d, rfl⟩ : ∃ a t h d, y = ix4 a t h d := ⟨y 0, y 1, y 2, y 3, by funext k; fin_cases k <;> rfl⟩
  obtain rfl : a = 0 := Subsingleton.elim _ _
  fin_cases t
  · rw [View.read_writes_cons_miss_of_axis _ _ _ _ _ 1 3 1 rfl rfl rfl (.inl (show (0 : ℕ) < 3 from by decide)),
      View.read_writes_cons_miss_of_axis _ _ _ _ _ 1 2 1 rfl rfl rfl (.inl (show (0 : ℕ) < 2 from by decide)),
      View.read_writes_cons_miss_of_axis _ _ _ _ _ 1 1 1 rfl rfl rfl (.inl (show (0 : ℕ) < 1 from by decide))]
    exact (View.read_writes_cons_hit_of_coords _ _ _ _ _ (ix4 0 0 h d) _ (coords7 0 (by decide) h d _)).trans (h0 h d)
  · rw [View.read_writes_cons_miss_of_axis _ _ _ _ _ 1 3 1 rfl rfl rfl (.inl (show (1 : ℕ) < 3 from by decide)),
      View.read_writes_cons_miss_of_axis _ _ _ _ _ 1 2 1 rfl rfl rfl (.inl (show (1 : ℕ) < 2 from by decide))]
    exact (View.read_writes_cons_hit_of_coords _ _ _ _ _ (ix4 0 0 h d) _ (coords7 1 (by decide) h d _)).trans (h1 h d)
  · rw [View.read_writes_cons_miss_of_axis _ _ _ _ _ 1 3 1 rfl rfl rfl (.inl (show (2 : ℕ) < 3 from by decide))]
    exact (View.read_writes_cons_hit_of_coords _ _ _ _ _ (ix4 0 0 h d) _ (coords7 2 (by decide) h d _)).trans (h2 h d)
  · exact (View.read_writes_cons_hit_of_coords _ _ _ _ _ (ix4 0 0 h d) _ (coords7 3 (by decide) h d _)).trans (h3 h d)

/-- The four stores of the logarithms, one per token. -/
theorem read8 (O : Vec Ideal S1x1x4x128 .f32) (p3 p2 p1 p0 : FVec Ideal S1x1x1x128 .f32) (i3 i2 i1 i0)
    (h3 : ∀ h, p3 (ix4 0 0 0 h) = O (ix4 0 0 3 h)) (h2 : ∀ h, p2 (ix4 0 0 0 h) = O (ix4 0 0 2 h))
    (h1 : ∀ h, p1 (ix4 0 0 0 h) = O (ix4 0 0 1 h)) (h0 : ∀ h, p0 (ix4 0 0 0 h) = O (ix4 0 0 0 h)) :
    arg11.view.read (Elt Ideal) (arg11.view.writes (Elt Ideal) f8
        [⟨Rect.unit (s := S1x1x4x128) ![0, 0, 3, 0] S1x1x1x128.size i3, p3⟩, ⟨Rect.unit (s := S1x1x4x128) ![0, 0, 2, 0] S1x1x1x128.size i2, p2⟩,
          ⟨Rect.unit (s := S1x1x4x128) ![0, 0, 1, 0] S1x1x1x128.size i1, p1⟩, ⟨Rect.unit (s := S1x1x4x128) ![0, 0, 0, 0] S1x1x1x128.size i0, p0⟩]) = O := by
  funext y
  obtain ⟨a, b, t, h, rfl⟩ : ∃ a b t h, y = ix4 a b t h := ⟨y 0, y 1, y 2, y 3, by funext k; fin_cases k <;> rfl⟩
  obtain rfl : a = 0 := Subsingleton.elim _ _
  obtain rfl : b = 0 := Subsingleton.elim _ _
  fin_cases t
  · rw [View.read_writes_cons_miss_of_axis _ _ _ _ _ 2 3 1 rfl rfl rfl (.inl (show (0 : ℕ) < 3 from by decide)),
      View.read_writes_cons_miss_of_axis _ _ _ _ _ 2 2 1 rfl rfl rfl (.inl (show (0 : ℕ) < 2 from by decide)),
      View.read_writes_cons_miss_of_axis _ _ _ _ _ 2 1 1 rfl rfl rfl (.inl (show (0 : ℕ) < 1 from by decide))]
    exact (View.read_writes_cons_hit_of_coords _ _ _ _ _ (ix4 0 0 0 h) _ (coords8 0 (by decide) h _)).trans (h0 h)
  · rw [View.read_writes_cons_miss_of_axis _ _ _ _ _ 2 3 1 rfl rfl rfl (.inl (show (1 : ℕ) < 3 from by decide)),
      View.read_writes_cons_miss_of_axis _ _ _ _ _ 2 2 1 rfl rfl rfl (.inl (show (1 : ℕ) < 2 from by decide))]
    exact (View.read_writes_cons_hit_of_coords _ _ _ _ _ (ix4 0 0 0 h) _ (coords8 1 (by decide) h _)).trans (h1 h)
  · rw [View.read_writes_cons_miss_of_axis _ _ _ _ _ 2 3 1 rfl rfl rfl (.inl (show (2 : ℕ) < 3 from by decide))]
    exact (View.read_writes_cons_hit_of_coords _ _ _ _ _ (ix4 0 0 0 h) _ (coords8 2 (by decide) h _)).trans (h2 h)
  · exact (View.read_writes_cons_hit_of_coords _ _ _ _ _ (ix4 0 0 0 h) _ (coords8 3 (by decide) h _)).trans (h3 h)

end

section
variable (i : grid0.Coords) (w : BitVec 32)
variable (x0 : Vec Ideal S1x4x128x512 .fp8e4m3) (x1 : Vec Ideal S1x1x4x128 .f32) (x2 : Vec Ideal S1x4x128x64 .bf16)
  (x3 : Vec Ideal S1x2816x512 .fp8e4m3) (x4 : Vec Ideal S1x512x2816 .fp8e4m3) (x5 : Vec Ideal S1x2816x128 .f32) (x6 : Vec Ideal S1x2816x64 .bf16)

/-- A column of the output is its token's and head's element. -/
theorem o7_col (V : FVec Ideal S512x512 .f32)
    (hV : ∀ d l : Fin 512, V (ix2 d l) = if ((4 * (i 1).val + l.val / 128 : ℕ) : ℤ) < w.toInt then
      Attend.outK (nkeys i) (scB x0 x1 x2 x3 x5 x6 (4 * (i 1).val + l.val / 128) ⟨l.val / 128, by omega⟩ ⟨l.val % 128, by omega⟩) (csB x5) (ctB x4 d) else 0)
    (t : Fin 4) (h : Fin 128) (d l : Fin 512) (hl : l.val = 128 * t.val + h.val) :
    V (ix2 d l) = o7 x0 x1 x2 x3 x4 x5 x6 i w (ix4 0 t h d) := by
  have e1 : l.val / 128 = t.val := by have := h.isLt; omega
  have e2 : l.val % 128 = h.val := by have := h.isLt; omega
  rw [hV d l]
  simp only [e1, e2]
  rfl

/-- The same for the logarithms. -/
theorem o8_col (V : FVec Ideal S1x512 .f32)
    (hV : ∀ l : Fin 512, V (ix2 0 l) = if ((4 * (i 1).val + l.val / 128 : ℕ) : ℤ) < w.toInt then
      Attend.lse (nkeys i) (scB x0 x1 x2 x3 x5 x6 (4 * (i 1).val + l.val / 128) ⟨l.val / 128, by omega⟩ ⟨l.val % 128, by omega⟩) else 0)
    (t : Fin 4) (h : Fin 128) (l : Fin 512) (hl : l.val = 128 * t.val + h.val) :
    V (ix2 0 l) = o8 x0 x1 x2 x3 x5 x6 i w (ix4 0 0 t h) := by
  have e1 : l.val / 128 = t.val := by have := h.isLt; omega
  have e2 : l.val % 128 = h.val := by have := h.isLt; omega
  rw [hV l]
  simp only [e1, e2]
  rfl

/-- Where a point is skipped the outputs are zero. -/
theorem o7_skipped (h : ¬ k0_cond2 i w = 1#1) : o7 x0 x1 x2 x3 x4 x5 x6 i w = k0_pay1 (F := Ideal) := by
  funext y
  unfold o7
  rw [if_neg (not_lt_of_skipped h _)]
  pointwise [k0_pay1]

theorem o8_skipped (h : ¬ k0_cond2 i w = 1#1) : o8 x0 x1 x2 x3 x5 x6 i w = k0_pay2 (F := Ideal) := by
  funext y
  unfold o8
  rw [if_neg (not_lt_of_skipped h _)]
  pointwise [k0_pay2]

end

/-- The word of the number of key blocks a point visits. -/
abbrev NN (i : grid0.Coords) : BitVec 32 :=
  Scalar.addi
    (Scalar.select
      (Scalar.andi
        (Scalar.cmpi CmpIPredicate.ne
          (Scalar.subi (Scalar.extui (Scalar.cmpi CmpIPredicate.sgt (Q0 i) 0#32)) (Scalar.extui (Scalar.cmpi CmpIPredicate.slt (Q0 i) 0#32)))
          (Scalar.subi (Scalar.extui (Scalar.cmpi CmpIPredicate.sgt 256#32 0#32)) (Scalar.extui (Scalar.cmpi CmpIPredicate.slt 256#32 0#32))))
        (Scalar.cmpi CmpIPredicate.ne (Scalar.remsi (Q0 i) 256#32) 0#32))
      (Scalar.subi (Scalar.divsi (Q0 i) 256#32) 1#32) (Scalar.divsi (Q0 i) 256#32))
    1#32

/-- A whole block as the body loads it, and the four rows of the scales. -/
theorem ldq (arg3 : Memref sig .tc .vmem S1x4x128x512 .fp8e4m3) (harg3 : arg3.IsWhole) (x0 : Vec Ideal S1x4x128x512 .fp8e4m3) (inb) (l x : Fin 512) :
    k0_pay4 (F := Ideal) (View.readAt (Elt Ideal) arg3.view (Rect.unit (s := S1x4x128x512) ![0, 0, 0, 0] S1x4x128x512.size inb).toLoadRect (harg3.unread x0)) (ix2 l x)
      = x0 (ix4 0 ⟨l.val / 128, by omega⟩ ⟨l.val % 128, by omega⟩ x) := by
  rw [pay4_at]
  refine Eq.trans (View.readAt_apply ..) ((congrFun (harg3.read_unread x0) _).trans (congrArg x0 ?_))
  funext a
  apply Fin.ext
  fin_cases a
  · rfl
  · show 0 + 1 * (l.val / 128) = l.val / 128; omega
  · show 0 + 1 * (l.val % 128) = l.val % 128; omega
  · show 0 + 1 * x.val = x.val; omega

theorem ldqr (arg5 : Memref sig .tc .vmem S1x4x128x64 .bf16) (harg5 : arg5.IsWhole) (x2 : Vec Ideal S1x4x128x64 .bf16) (inb) (l : Fin 512) (x : Fin 64) :
    k0_pay5 (F := Ideal) (View.readAt (Elt Ideal) arg5.view (Rect.unit (s := S1x4x128x64) ![0, 0, 0, 0] S1x4x128x64.size inb).toLoadRect (harg5.unread x2)) (ix2 l x)
      = x2 (ix4 0 ⟨l.val / 128, by omega⟩ ⟨l.val % 128, by omega⟩ x) := by
  rw [pay5_at]
  refine Eq.trans (View.readAt_apply ..) ((congrFun (harg5.read_unread x2) _).trans (congrArg x2 ?_))
  funext a
  apply Fin.ext
  fin_cases a
  · rfl
  · show 0 + 1 * (l.val / 128) = l.val / 128; omega
  · show 0 + 1 * (l.val % 128) = l.val % 128; omega
  · show 0 + 1 * x.val = x.val; omega

theorem ldrow (arg4 : Memref sig .tc .vmem S1x1x4x128 .f32) (harg4 : arg4.IsWhole) (x1 : Vec Ideal S1x1x4x128 .f32) (t : ℕ) (ht : t < 4) (inb) (h : Fin 128) :
    (View.readAt (Elt Ideal) arg4.view (Rect.unit (s := S1x1x4x128) ![0, 0, t, 0] S1x1x1x128.size inb).toLoadRect (harg4.unread x1) : Vec Ideal S1x1x1x128 .f32) (ix4 0 0 0 h)
      = x1 (ix4 0 0 ⟨t, ht⟩ h) := by
  refine Eq.trans (View.readAt_apply ..) ((congrFun (harg4.read_unread x1) _).trans (congrArg x1 ?_))
  funext a
  apply Fin.ext
  fin_cases a
  · rfl
  · rfl
  · show t + 1 * 0 = t; omega
  · show 0 + 1 * h.val = h.val; omega

/-- A loop of no trips leaves its start. -/
theorem st2_none (𝒱 : Variants) (c : Dev nD) (bd : Option 𝒱.V) (i : grid0.Coords) (arg2 : Memref sig .tc .smem S2 .i32) (harg2 : arg2.IsWhole) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole) (v0 : BitVec 32) (v20 : BitVec 32) (v29 : FVec Ideal S512x512 .fp8e4m3) (v32 : FVec Ideal S512x64 .bf16) (v41 : FVec Ideal S1x512 .f32) (v42 : IVec S1x512 32) (c128_i32 : BitVec 32) (v44 : IVec S1x512 32) (v51 : IVec S1x512 32) (v57 : IVec S1x512 32) (X_arg6 : BufTy.Contents (Elt Ideal) arg6.view.ty) (X_arg8 : BufTy.Contents (Elt Ideal) arg8.view.ty) (X_arg9 : BufTy.Contents (Elt Ideal) arg9.view.ty) (init : FVec Ideal S1x512 .f32) :
    st_k0_t2 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128_i32 v44 v51 v57 X_arg6 X_arg8 X_arg9 init (k0_t2_loop i).trips = (init, []) := by
  rw [trips2]; rfl

/-- A loop of no trips leaves its start. -/
theorem st4_none (𝒱 : Variants) (c : Dev nD) (bd : Option 𝒱.V) (i : grid0.Coords) (arg2 : Memref sig .tc .smem S2 .i32) (harg2 : arg2.IsWhole) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole) (v0 : BitVec 32) (v20 : BitVec 32) (v29 : FVec Ideal S512x512 .fp8e4m3) (v32 : FVec Ideal S512x64 .bf16) (v41 : FVec Ideal S1x512 .f32) (v42 : IVec S1x512 32) (c128_i32 : BitVec 32) (v44 : IVec S1x512 32) (v51 : IVec S1x512 32) (v57 : IVec S1x512 32) (v76 : FVec Ideal S1x512 .f32) (X_arg8 : BufTy.Contents (Elt Ideal) arg8.view.ty) (G_arg12 : BufTy.Contents (Elt Ideal) arg12.view.ty) (init : FVec Ideal S1x512 .f32 × FVec Ideal S1x512 .f32) :
    st_k0_t4 (F := Ideal) 𝒱 c bd i arg2 harg2 arg3 harg3 arg4 harg4 arg5 harg5 arg6 harg6 arg7 harg7 arg8 harg8 arg9 harg9 arg10 harg10 arg11 harg11 arg12 harg12 v0 v20 v29 v32 v41 v42 c128_i32 v44 v51 v57 v76 X_arg8 G_arg12 init (k0_t4_loop i).trips = (init, []) := by
  rw [trips4]; rfl

/-- A loop of no trips leaves its start. -/
theorem st6_none (𝒱 : Variants) (c : Dev nD) (bd : Option 𝒱.V) (i : grid0.Coords) (arg2 : Memref sig .tc .smem S2 .i32) (harg2 : arg2.IsWhole) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole) (v2 : Elt Ideal .i32) (v20 : BitVec 32) (v68 : IVec S1x512 32) (v84_0 : FVec Ideal S1x512 .f32) (v86 : FVec Ideal S1x512 .f32) (v87 : FVec Ideal S1x512 .f32) (v99 : IVec S1x512 32) (v100 : FVec Ideal S1x512 .f32) (X_arg7 : BufTy.Contents (Elt Ideal) arg7.view.ty) (X_arg12 : BufTy.Contents (Elt Ideal) arg12.view.ty) (init : FVec Ideal S512x512 .f32) :
    st_k0_t6 (F := Ideal) 𝒱 c bd i arg2 harg2 arg3 harg3 arg4 harg4 arg5 harg5 arg6 harg6 arg7 harg7 arg8 harg8 arg9 harg9 arg10 harg10 arg11 harg11 arg12 harg12 v2 v20 v68 v84_0 v86 v87 v99 v100 X_arg7 X_arg12 init (k0_t6_loop i).trips = init := by
  rw [trips6]; rfl

/-- One store of a whole block. -/
theorem read_whole7 (arg10 : Memref sig .tc .vmem S1x4x128x512 .bf16) (f7 : BufTy.Contents (Elt Ideal) arg10.view.ty) (p : FVec Ideal S1x4x128x512 .bf16) (inb) :
    arg10.view.read (Elt Ideal) (arg10.view.writes (Elt Ideal) f7 [⟨Rect.unit (s := S1x4x128x512) ![0, 0, 0, 0] S1x4x128x512.size inb, p⟩]) = p := by
  funext y
  refine View.read_writes_cons_hit_of_coords arg10.view f7 (Rect.unit (s := S1x4x128x512) ![0, 0, 0, 0] S1x4x128x512.size inb) p [] y y ?_
  intro a
  fin_cases a
  all_goals (show _ = 0 + 1 * _; omega)

theorem read_whole8 (arg11 : Memref sig .tc .vmem S1x1x4x128 .f32) (f8 : BufTy.Contents (Elt Ideal) arg11.view.ty) (p : FVec Ideal S1x1x4x128 .f32) (inb) :
    arg11.view.read (Elt Ideal) (arg11.view.writes (Elt Ideal) f8 [⟨Rect.unit (s := S1x1x4x128) ![0, 0, 0, 0] S1x1x4x128.size inb, p⟩]) = p := by
  funext y
  refine View.read_writes_cons_hit_of_coords arg11.view f8 (Rect.unit (s := S1x1x4x128) ![0, 0, 0, 0] S1x1x4x128.size inb) p [] y y ?_
  intro a
  fin_cases a
  all_goals (show _ = 0 + 1 * _; omega)

-- (the run's proof term is large: checking it walks past the default budget)
set_option maxHeartbeats 1000000 in
/-- The body's triple: the inputs and the table are handed back as they were, the two outputs hold the point's blocks, the scratch
    something. -/
theorem bodyRun (c : Dev nD) (i : grid0.Coords) (arg3 : Memref sig .tc .vmem S1x4x128x512 .fp8e4m3) (harg3 : arg3.IsWhole) (arg4 : Memref sig .tc .vmem S1x1x4x128 .f32) (harg4 : arg4.IsWhole) (arg5 : Memref sig .tc .vmem S1x4x128x64 .bf16) (harg5 : arg5.IsWhole) (arg6 : Memref sig .tc .vmem S1x2816x512 .fp8e4m3) (harg6 : arg6.IsWhole) (arg7 : Memref sig .tc .vmem S1x512x2816 .fp8e4m3) (harg7 : arg7.IsWhole) (arg8 : Memref sig .tc .vmem S1x2816x128 .f32) (harg8 : arg8.IsWhole) (arg9 : Memref sig .tc .vmem S1x2816x64 .bf16) (harg9 : arg9.IsWhole) (arg10 : Memref sig .tc .vmem S1x4x128x512 .bf16) (harg10 : arg10.IsWhole) (arg11 : Memref sig .tc .vmem S1x1x4x128 .f32) (harg11 : arg11.IsWhole) (arg12 : Memref sig .tc .vmem S2816x512 .f32) (harg12 : arg12.IsWhole)
    (x0 : Vec Ideal S1x4x128x512 .fp8e4m3) (x1 : Vec Ideal S1x1x4x128 .f32) (x2 : Vec Ideal S1x4x128x64 .bf16) (x3 : Vec Ideal S1x2816x512 .fp8e4m3) (x4 : Vec Ideal S1x512x2816 .fp8e4m3) (x5 : Vec Ideal S1x2816x128 .f32) (x6 : Vec Ideal S1x2816x64 .bf16) (xt0 : TbBuf0 (F := Ideal) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (o7 x0 x1 x2 x3 x4 x5 x6 i (lenW c i xt0)) ∗ owns (c : Thread nD τ) arg11 fullShare (o8 x0 x1 x2 x3 x5 x6 i (lenW c i xt0)) ∗ (∃ d, owns (c : Thread nD τ) arg12 fullShare d) ∗ tbPt0 c tbM0_0 xt0) -∗ K ⟨⟩))
          ⊢ wp frame (wpE (defs₀ (F := Ideal)) Variants.none c none) E (cc0_attend i tbM0_0 htbM0_0 arg3 harg3 arg4 harg4 arg5 harg5 arg6 harg6 arg7 harg7 arg8 harg8 arg9 harg9 arg10 harg10 arg11 harg11 arg12 harg12) K := by
    intro E K
    simp only [cc0_attend_eq_skeleton]; unfold cc0_attend_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    refine wp_cases _ _ _ _ ?_ ?_
    · intro h2
      have h1 := cond1_of_cond2 h2
      have fin := final Variants.none c none i tbM0_0 htbM0_0 arg3 harg3 arg4 harg4 arg5 harg5 arg6 harg6 arg7 harg7 arg8 harg8 arg9 harg9 arg10 harg10 arg11 harg11 arg12 harg12 x0 x1 x2 x3 x4 x5 x6 (NN i) (lenW c i xt0) fs0 _ (ldq arg3 harg3 x0 inb_S1x4x128x512_S1x4x128x512_0_0_0_0) _ (ldqr arg5 harg5 x2 inb_S1x4x128x64_S1x4x128x64_0_0_0_0)
        _ (pay6_at _ _ _ _ x1 (ldrow arg4 harg4 x1 0 (by decide) inb_S1x1x4x128_S1x1x1x128_0_0_0_0) (ldrow arg4 harg4 x1 1 (by decide) inb_S1x1x4x128_S1x1x1x128_0_0_1_0) (ldrow arg4 harg4 x1 2 (by decide) inb_S1x1x4x128_S1x1x1x128_0_0_2_0) (ldrow arg4 harg4 x1 3 (by decide) inb_S1x1x4x128_S1x1x1x128_0_0_3_0))
        _ rfl _ rfl _ rfl _ rfl _ rfl
      obtain ⟨fin7, fin8⟩ := fin
      rw [dif_neg h1, dif_neg h1]
      iintro ⟨⟨⟨⟨⟨⟨⟨⟨⟨⟨H0, H1⟩, H2⟩, H3⟩, H4⟩, H5⟩, H6⟩, HS0⟩, HT0⟩, Hk⟩, H7, H8⟩
      sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; swap; · iexact H7
        ipureintro
        have hV : ∀ d l : Fin 512, bodyRun.sl.r_12 c i arg3 harg3 arg4 harg4 arg5 harg5 arg6 harg6 arg7 harg7 arg8 harg8 arg9 harg9 arg10 harg10 arg11 harg11 arg12 harg12 x0 x1 x2 x3 x4 x5 x6 xt0 fs0 (ix2 d l) = if ((4 * (i 1).val + l.val / 128 : ℕ) : ℤ) < (lenW c i xt0).toInt then
            Attend.outK (nkeys i) (scB x0 x1 x2 x3 x5 x6 (4 * (i 1).val + l.val / 128) ⟨l.val / 128, by omega⟩ ⟨l.val % 128, by omega⟩) (csB x5) (ctB x4 d) else 0 := by
          intro d l
          unfold bodyRun.sl.r_12 bodyRun.sl.r_11 bodyRun.sl.r_10 bodyRun.sl.r_9 bodyRun.sl.r_8 bodyRun.sl.r_7 bodyRun.sl.r_6 bodyRun.sl.r_5 bodyRun.sl.r_4 bodyRun.sl.v42_1
          rw [show bodyRun.sl.r c i xt0 = lenW c i xt0 from by unfold bodyRun.sl.r; exact lenW_eq c i xt0 _ _]
          rw [st2_none, st4_none, st6_none]
          repeat rw [List.nil_append]
          repeat rw [View.writes_append]
          exact fin7 d l
        exact read7 arg10 f7 _ _ _ _ _ _ _ _ _
          (fun h d => (pay46_at _ h d).trans (o7_col i _ x0 x1 x2 x3 x4 x5 x6 _ hV 3 h d _ rfl))
          (fun h d => (pay44_at _ h d).trans (o7_col i _ x0 x1 x2 x3 x4 x5 x6 _ hV 2 h d _ rfl))
          (fun h d => (pay42_at _ h d).trans (o7_col i _ x0 x1 x2 x3 x4 x5 x6 _ hV 1 h d _ rfl))
          (fun h d => (pay40_at _ _ _ _ _ _ h d).trans (o7_col i _ x0 x1 x2 x3 x4 x5 x6 _ hV 0 h d _ (by show h.val = 128 * 0 + h.val; omega)))
      isplitl [H8]
      · iexists _; isplitr; swap; · iexact H8
        ipureintro
        have hV : ∀ l : Fin 512, bodyRun.sl.r_13 c i arg3 harg3 arg4 harg4 arg5 harg5 arg6 harg6 arg7 harg7 arg8 harg8 arg9 harg9 arg10 harg10 arg11 harg11 arg12 harg12 x0 x1 x2 x3 x5 x6 xt0 fs0 (ix2 0 l) = if ((4 * (i 1).val + l.val / 128 : ℕ) : ℤ) < (lenW c i xt0).toInt then
            Attend.lse (nkeys i) (scB x0 x1 x2 x3 x5 x6 (4 * (i 1).val + l.val / 128) ⟨l.val / 128, by omega⟩ ⟨l.val % 128, by omega⟩) else 0 := by
          intro l
          unfold bodyRun.sl.r_13 bodyRun.sl.r_9 bodyRun.sl.r_7 bodyRun.sl.r_6 bodyRun.sl.r_5 bodyRun.sl.r_4 bodyRun.sl.v42_1
          rw [show bodyRun.sl.r c i xt0 = lenW c i xt0 from by unfold bodyRun.sl.r; exact lenW_eq c i xt0 _ _]
          rw [st2_none, st4_none]
          repeat rw [List.nil_append]
          exact fin8 l
        exact read8 arg11 f8 _ _ _ _ _ _ _ _ _
          (fun h => (pay3_at _ h).trans (o8_col i _ x0 x1 x2 x3 x5 x6 _ hV 3 h _ rfl))
          (fun h => (pay45_at _ h).trans (o8_col i _ x0 x1 x2 x3 x5 x6 _ hV 2 h _ rfl))
          (fun h => (pay43_at _ h).trans (o8_col i _ x0 x1 x2 x3 x5 x6 _ hV 1 h _ rfl))
          (fun h => (pay41_at _ h).trans (o8_col i _ x0 x1 x2 x3 x5 x6 _ hV 0 h _ (by show h.val = 128 * 0 + h.val; omega)))
      isplitl [HS0]
      · iexists _, _; isplitr; swap; · iexact HS0
        ipureintro; rfl
      iexact HT0
    · intro h2
      iintro ⟨⟨⟨⟨⟨⟨⟨⟨⟨⟨H0, H1⟩, H2⟩, H3⟩, H4⟩, H5⟩, H6⟩, HS0⟩, HT0⟩, Hk⟩, H7, H8⟩
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; swap; · iexact H7
        ipureintro
        have hs : ¬ k0_cond2 i (lenW c i xt0) = 1#1 := by rw [← lenW_eq c i xt0 _ _]; exact h2
        rw [dif_pos (cond1_of_not_cond2 h2), o7_skipped (h := hs)]
        exact read_whole7 arg10 f7 _ _
      isplitl [H8]
      · iexists _; isplitr; swap; · iexact H8
        ipureintro
        have hs : ¬ k0_cond2 i (lenW c i xt0) = 1#1 := by rw [← lenW_eq c i xt0 _ _]; exact h2
        rw [dif_pos (cond1_of_not_cond2 h2), o8_skipped (h := hs)]
        exact read_whole8 arg11 f8 _ _
      isplitl [HS0]
      · iexists _, _; isplitr; swap; · iexact HS0
        ipureintro; rfl
      iexact HT0

end Cert.KernelIdeal.Attend

end
-- ==== Proof.KernelIdeal.ValueFrame.lean ====
/- The run of `KernelIdeal` on the extended reals with its results named: the proof data of its one pipeline with each output block
   the body's function of the blocks read, the body obligation and the launch. -/
module

public import proofs.«01_k».proof.Proof.KernelIdeal.Body
public import proofs.«01_k».proof.Proof.KernelIdeal.BodyValue
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and the outputs, at the body's function of the blocks; the invariant the class's
    (Lib/Pipeline/Frame.lean `ΦA`: the scoped rest and the generator register) and the tables' halves (`ΦT`); nothing owed;
    full shares. -/
def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => o7 (iblk m hO c 0 t) (iblk m hO c 1 t) (iblk m hO c 2 t) (iblk m hO c 3 t) (iblk m hO c 4 t) (iblk m hO c 5 t) (iblk m hO c 6 t) (grid0.coords t) (lenW c (grid0.coords t) (tbl m 0))
    | ⟨8, _⟩ => o8 (iblk m hO c 0 t) (iblk m hO c 1 t) (iblk m hO c 2 t) (iblk m hO c 3 t) (iblk m hO c 5 t) (iblk m hO c 6 t) (grid0.coords t) (lenW c (grid0.coords t) (tbl m 0))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eqV (hO : Ok m) (c : Dev nD) (w : Fin (cfgM m hO).W) : (datsV m hO 0 c).A w = V m c (Pipeline.arrRef spec0 w) := by
  dsimp only [datsV]

/-- What the body leaves, window by window (the proof data's `match` reduced by `dsimp`). -/
theorem after0_0V (hO : Ok m) (c : Dev nD) (t : Fin (cfgM m hO).N) : (datsV m hO 0 c).after 0 t = iblk m hO c 0 t := by dsimp only [datsV]; try rfl
theorem after0_1V (hO : Ok m) (c : Dev nD) (t : Fin (cfgM m hO).N) : (datsV m hO 0 c).after 1 t = iblk m hO c 1 t := by dsimp only [datsV]; try rfl
theorem after0_2V (hO : Ok m) (c : Dev nD) (t : Fin (cfgM m hO).N) : (datsV m hO 0 c).after 2 t = iblk m hO c 2 t := by dsimp only [datsV]; try rfl
theorem after0_3V (hO : Ok m) (c : Dev nD) (t : Fin (cfgM m hO).N) : (datsV m hO 0 c).after 3 t = iblk m hO c 3 t := by dsimp only [datsV]; try rfl
theorem after0_4V (hO : Ok m) (c : Dev nD) (t : Fin (cfgM m hO).N) : (datsV m hO 0 c).after 4 t = iblk m hO c 4 t := by dsimp only [datsV]; try rfl
theorem after0_5V (hO : Ok m) (c : Dev nD) (t : Fin (cfgM m hO).N) : (datsV m hO 0 c).after 5 t = iblk m hO c 5 t := by dsimp only [datsV]; try rfl
theorem after0_7V (hO : Ok m) (c : Dev nD) (t : Fin (cfgM m hO).N) : (datsV m hO 0 c).after 7 t = o7 (iblk m hO c 0 t) (iblk m hO c 1 t) (iblk m hO c 2 t) (iblk m hO c 3 t) (iblk m hO c 4 t) (iblk m hO c 5 t) (iblk m hO c 6 t) (grid0.coords t) (lenW c (grid0.coords t) (tbl m 0)) := by dsimp only [datsV]; try rfl
theorem after0_8V (hO : Ok m) (c : Dev nD) (t : Fin (cfgM m hO).N) : (datsV m hO 0 c).after 8 t = o8 (iblk m hO c 0 t) (iblk m hO c 1 t) (iblk m hO c 2 t) (iblk m hO c 3 t) (iblk m hO c 5 t) (iblk m hO c 6 t) (grid0.coords t) (lenW c (grid0.coords t) (tbl m 0)) := by dsimp only [datsV]; try rfl
theorem after0_6V (hO : Ok m) (c : Dev nD) (t : Fin (cfgM m hO).N) : (datsV m hO 0 c).after 6 t = iblk m hO c 6 t := by dsimp only [datsV]; try rfl

/-- Each input's current staging buffer holds its block at every point, fetched there or not (`beforeK_W_of`). -/
theorem before0_0V (hO : Ok m) (c : Dev nD) (t : Fin (cfgM m hO).N) (d) : (datsV m hO 0 c).before 0 t d = iblk m hO c 0 t :=
  before0_0_of m hO (datsV m hO 0 c) (A_eqV m hO c 0) (after0_0V m hO c) t d
theorem before0_1V (hO : Ok m) (c : Dev nD) (t : Fin (cfgM m hO).N) (d) : (datsV m hO 0 c).before 1 t d = iblk m hO c 1 t :=
  before0_1_of m hO (datsV m hO 0 c) (A_eqV m hO c 1) (after0_1V m hO c) t d
theorem before0_2V (hO : Ok m) (c : Dev nD) (t : Fin (cfgM m hO).N) (d) : (datsV m hO 0 c).before 2 t d = iblk m hO c 2 t :=
  before0_2_of m hO (datsV m hO 0 c) (A_eqV m hO c 2) (after0_2V m hO c) t d
theorem before0_3V (hO : Ok m) (c : Dev nD) (t : Fin (cfgM m hO).N) (d) : (datsV m hO 0 c).before 3 t d = iblk m hO c 3 t :=
  before0_3_of m hO (datsV m hO 0 c) (A_eqV m hO c 3) (after0_3V m hO c) t d
theorem before0_4V (hO : Ok m) (c : Dev nD) (t : Fin (cfgM m hO).N) (d) : (datsV m hO 0 c).before 4 t d = iblk m hO c 4 t :=
  before0_4_of m hO (datsV m hO 0 c) (A_eqV m hO c 4) (after0_4V m hO c) t d
theorem before0_5V (hO : Ok m) (c : Dev nD) (t : Fin (cfgM m hO).N) (d) : (datsV m hO 0 c).before 5 t d = iblk m hO c 5 t :=
  before0_5_of m hO (datsV m hO 0 c) (A_eqV m hO c 5) (after0_5V m hO c) t d
theorem before0_6V (hO : Ok m) (c : Dev nD) (t : Fin (cfgM m hO).N) (d) : (datsV m hO 0 c).before 6 t d = iblk m hO c 6 t :=
  before0_6_of m hO (datsV m hO 0 c) (A_eqV m hO c 6) (after0_6V m hO c) t d

/-! ## The body obligation, at a generic point -/

/-- What the body is called with at point `t` (Lib/Pipeline.lean `BodyObligation`'s precondition, the windows one by one), -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d)))

/-- and what it returns. -/
def bodyPostV (hO : Ok m) (c : Dev nD) (t : Fin (cfgM m hO).N) : sProp 𝕄 :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t)
    ∗ owns (c : Thread nD τ) (ms0_6 m hO t) fullShare ((datsV m hO 0 c).after 6 t)
    ∗ owns (c : Thread nD τ) (ms0_7 m hO t) fullShare ((datsV m hO 0 c).after 7 t)
    ∗ owns (c : Thread nD τ) (ms0_8 m hO t) fullShare ((datsV m hO 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_bodyV (hO : Ok m) (c : Dev nD) (t : Fin (cfgM m hO).N) :
    bodyPreV m hO c t ⊢ wp frame (wpE (defs₀ (F := Ideal)) Variants.none c none) Set.univ (bodyAt0 (adm m hO) t) (fun _ => bodyPostV m hO c t) := by
  unfold bodyPreV bodyPostV bodyAt0
  simp only [before0_0V, before0_1V, before0_2V, before0_3V, before0_4V, before0_5V, before0_6V]
  rw [show (datsV m hO 0 c).Φ t.succ = (datsV m hO 0 c).Φ t.castSucc from rfl,
    show (datsV m hO 0 c).owesAt () t.succ = (datsV m hO 0 c).owesAt () t.castSucc from rfl,
    after0_0V, after0_1V, after0_2V, after0_3V, after0_4V, after0_5V, after0_6V, after0_7V, after0_8V]
  rw [show (datsV m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HT0]; · iexact HT0
  iintro ⟨H0, H1, H2, H3, H4, H5, H6, H7, H8, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_rowV (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligationV (hO : Ok m) (c : Dev nD) : BodyObligation (datsV m hO 0 c) (defs₀ (F := Ideal)) Variants.none () Set.univ := fun t => by
  have f7 : ((cfgM m hO).win (7 : Fin 9)).flush t = true := flush0_7 (adm m hO) t
  have f8 : ((cfgM m hO).win (8 : Fin 9)).flush t = true := flush0_8 (adm m hO) t
  rw [bigSep_W0, bigSep_W0, defs₀_rowV m hO, f7, f8]
  generalize (cfgM m hO).idle (7 : Fin 9) ((cfgM m hO).grid.coords t) = b7
  generalize (cfgM m hO).idle (8 : Fin 9) ((cfgM m hO).grid.coords t) = b8
  cases b7 <;> cases b8
  all_goals exact triple_restated (sound_bodyV m hO c t) rfl .rfl fun _ => .rfl

/-! ## The run -/

-- the launch theorem's implicit arguments are found by unifying its conclusion with this one, which takes unfolding plain
-- definitions in a metavariable's type
set_option backward.isDefEq.respectTransparency.types false in
/-- The run: every array of the pipeline ends at what its write-backs leave, every other buffer as the region found it, every
    counter at zero. -/
theorem runV (hO : Ok m) : θ_run defs (onTc (τ := τ) (main (F := Ideal))) (s₀ m ρ) (fun r => (Pipeline.FramePost (Pipeline.pin pcfgs fun _ => adm m hO) (datsV m hO) 0 (V m)) r ∧ r.2.sem = fun _ => 0) :=
  Pipeline.θ_run_frameP (Q' := _) pcfgs (fun _ => adm m hO) (datsV m hO) (0 : Fin 1) launch0 defs₀ Variants.none m ρ main
    (hbody := fun c => (body_obligationV m hO c).loose) (hshare := fun c => (datsV m hO 0 c).share_full fun _ => rfl)
    (howed := fun _ _ => rfl) (V := V m) (hmain := hmain m Variants.none) (hA := A_eqV m hO) (hpf := V_pre m) (hΦ := fun _ _ => rfl)

end Cert.KernelIdeal.Attend

end
-- ==== Proof.Math.Spec.lean ====
/- The attention both programs compute, over whole arrays: the score of a key for a query, and the two results, once with the
   kernel's arithmetic over the key blocks it visits and once with the reference's over every key. -/
module

public import proofs.«01_k».proof.Proof.Math.Attend

@[expose] public section

noncomputable section

namespace Attend

open Idealize.ShloMosaic

/-- The arrays' shapes: query codes, query scales, rope queries, codes, scales, rope keys, lengths, logarithms. -/
abbrev Sqc : Shape := ⟨4, ![2, 2816, 128, 512]⟩
abbrev Sqs : Shape := ⟨3, ![2, 2816, 128]⟩
abbrev Sqr : Shape := ⟨4, ![2, 2816, 128, 64]⟩
abbrev Sc : Shape := ⟨3, ![2, 2816, 512]⟩
abbrev Scs : Shape := ⟨2, ![2, 2816]⟩
abbrev Skr : Shape := ⟨3, ![2, 2816, 64]⟩
abbrev Sln : Shape := ⟨1, ![2]⟩
abbrev Slse : Shape := ⟨4, ![2, 704, 4, 128]⟩

/-- A number as a key; those of the keys are themselves. -/
def key (k : ℕ) : Fin 2816 := ⟨k % 2816, Nat.mod_lt _ (by decide)⟩

section
variable (qc : Vec Ideal Sqc .fp8e4m3) (qs : Vec Ideal Sqs .f32) (qr : Vec Ideal Sqr .bf16)
  (cc : Vec Ideal Sc .fp8e4m3) (cs : Vec Ideal Scs .f32) (kr : Vec Ideal Skr .bf16) (ln : Vec Ideal Sln .i32)

/-- The score of key `k` for sequence `b`, token `tok`, head `h`; minus infinity for a key after the token. -/
def score (b : Fin 2) (tok : Fin 2816) (h : Fin 128) (k : ℕ) : EReal :=
  if k ≤ tok.val then
    ((∑ x : Fin 512, cc (ix3 b (key k) x) * qc (ix4 b tok h x)) * (cs (ix2 b (key k)) * qs (ix3 b tok h))
        + ∑ x : Fin 64, kr (ix3 b (key k) x) * qr (ix4 b tok h x)) * Ideal.ofBits .f32 1033096506#32
  else ⊥

/-- The scales of sequence `b`'s keys. -/
def scales (b : Fin 2) (k : ℕ) : EReal := cs (ix2 b (key k))

/-- Column `d` of sequence `b`'s values. -/
def vals (b : Fin 2) (d : Fin 512) (k : ℕ) : EReal := cc (ix3 b (key k) d)

/-- The keys the kernel visits for token `tok`: the blocks of 256 up to the token's. -/
def visited (tok : ℕ) : ℕ := 256 * (tok / 256 + 1)

/-- The output with the kernel's arithmetic. -/
def outA (b : Fin 2) (tok : Fin 2816) (h : Fin 128) (d : Fin 512) : EReal :=
  if (tok.val : ℤ) < (ln (ix1 b)).toInt then
    outK (visited tok.val) (score qc qs qr cc cs kr b tok h) (scales cs b) (vals cc b d) else 0

/-- The output with the reference's arithmetic. -/
def outB (b : Fin 2) (tok : Fin 2816) (h : Fin 128) (d : Fin 512) : EReal :=
  if (tok.val : ℤ) < (ln (ix1 b)).toInt then
    outR 2816 (score qc qs qr cc cs kr b tok h) (scales cs b) (vals cc b d) else 0

/-- The logarithm of the normaliser over the keys the kernel visits. -/
def lseA (b : Fin 2) (tok : Fin 2816) (h : Fin 128) : EReal :=
  if (tok.val : ℤ) < (ln (ix1 b)).toInt then lse (visited tok.val) (score qc qs qr cc cs kr b tok h) else 0

/-- The logarithm of the normaliser over every key. -/
def lseB (b : Fin 2) (tok : Fin 2816) (h : Fin 128) : EReal :=
  if (tok.val : ℤ) < (ln (ix1 b)).toInt then lse 2816 (score qc qs qr cc cs kr b tok h) else 0

/-- The token of a row of the logarithms' layout. -/
def row (i : Fin 704) (t : Fin 4) : Fin 2816 := ⟨4 * i.val + t.val, by omega⟩

end

end Attend

end
-- ==== Proof.KernelIdeal.Final.lean ====
/- The blocks the pipeline stages, in terms of the arguments, and the two result arrays after the run: at every token the
   attention over the key blocks the kernel visits. -/
module

public import proofs.«01_k».proof.Proof.KernelIdeal.ValueFrame
public import proofs.«01_k».proof.Proof.Math.Spec
public import Idealize.ShloMosaic.Lib.Pipeline.ValueKit
public import Idealize.ShloMosaic.Lib.Pipeline.Covers

@[expose] public section

set_option maxRecDepth 16384

noncomputable section

namespace Cert.KernelIdeal.Attend

open Cert.KernelIdeal.Gen Cert.KernelIdeal
open Idealize.ShloMosaic Idealize.ShloMosaic.TcCoe
open Idealize.SL.Sem
open Idealize.ShloMosaic.Pipeline (Dat)

/-- Every window's block at every point. -/
theorem maps : ∀ i : grid0.Coords, cc0_transform_0 i = ![(i 0).val, (i 1).val, 0, 0] ∧ cc0_transform_1 i = ![(i 0).val, (i 1).val, 0, 0]
    ∧ cc0_transform_2 i = ![(i 0).val, (i 1).val, 0, 0] ∧ cc0_transform_3 i = ![(i 0).val, 0, 0] ∧ cc0_transform_4 i = ![(i 0).val, 0, 0]
    ∧ cc0_transform_5 i = ![(i 0).val, 0, 0] ∧ cc0_transform_6 i = ![(i 0).val, 0, 0] ∧ cc0_transform_7 i = ![(i 0).val, (i 1).val, 0, 0]
    ∧ cc0_transform_8 i = ![(i 0).val, (i 1).val, 0, 0] := by
  intro i
  have h0 : (BitVec.ofNat 32 (i 0).val).toNat = (i 0).val := (by decide : ∀ a : Fin 2, (BitVec.ofNat 32 a.val).toNat = a.val) (i 0)
  have h1 : (BitVec.ofNat 32 (i 1).val).toNat = (i 1).val := (by decide +kernel : ∀ a : Fin 704, (BitVec.ofNat 32 a.val).toNat = a.val) (i 1)
  refine ⟨?_, ?_, ?_, ?_, ?_, ?_, ?_, ?_, ?_⟩
  all_goals (funext a; fin_cases a <;> first | exact h0 | exact h1 | rfl)

variable (m : (ℓ : Loc nD τ sig) → Buf (Elt Ideal) ℓ)

/-- The block of query codes. -/
theorem blk0 (hO : Ok m) (c : Dev nD) (t : Fin (cfgM m hO).N) (b : Fin 2) (hb : grid0.coords t 0 = b) (i : Fin 704) (hi : grid0.coords t 1 = i) (u : Fin 4) (h : Fin 128) (x : Fin 512) :
    (iblk m hO c 0 t : Vec Ideal S1x4x128x512 .fp8e4m3) (ix4 0 u h x) = (m ((c : Thread nD τ).loc main_arg0) : Vec Ideal S2x2816x128x512 .fp8e4m3) (ix4 b (_root_.Attend.row i u) h x) := by
  unfold iblk
  have e : ((cfgM m hO).win 0).index t = ![b.val, i.val, 0, 0] := (maps (grid0.coords t)).1.trans (by rw [hb, hi])
  have e' : (((cfgM m hO).win 0).blk t).view.emb (ix4 0 u h x : S1x4x128x512.Idx) = (ix4 b (_root_.Attend.row i u) h x : S2x2816x128x512.Idx) := by
    funext a
    apply Fin.ext
    blk_simp
    rw [congrFun e a]
    fin_cases a
    all_goals (simp [_root_.Attend.row]; try omega)
  refine (congrArg (V m c main_arg0) e').trans ?_
  exact congrFun (V_main_arg0 m c) _

/-- The block of query scales, staged from the reshaped argument. -/
theorem blk1 (hO : Ok m) (c : Dev nD) (t : Fin (cfgM m hO).N) (b : Fin 2) (hb : grid0.coords t 0 = b) (i : Fin 704) (hi : grid0.coords t 1 = i) (u : Fin 4) (h : Fin 128) :
    (iblk m hO c 1 t : Vec Ideal S1x1x4x128 .f32) (ix4 0 0 u h) = (m ((c : Thread nD τ).loc main_arg1) : Vec Ideal S2x2816x128 .f32) (ix3 b (_root_.Attend.row i u) h) := by
  unfold iblk
  have e : ((cfgM m hO).win 1).index t = ![b.val, i.val, 0, 0] := (maps (grid0.coords t)).2.1.trans (by rw [hb, hi])
  have e' : (((cfgM m hO).win 1).blk t).view.emb (ix4 0 0 u h : S1x1x4x128.Idx) = (ix4 b i u h : S2x704x4x128.Idx) := by
    funext a
    apply Fin.ext
    blk_simp
    rw [congrFun e a]
    fin_cases a
    all_goals (simp [_root_.Attend.row]; try omega)
  refine (congrArg (V m c main_v0) e').trans ?_
  entry_read
  pointwise
  exact congrArg (fun z => m ((c : Thread nD τ).loc main_arg1) (ix3 b z h)) (Fin.ext (by show i.val * 4 + u.val = 4 * i.val + u.val; omega))

/-- The block of rope queries. -/
theorem blk2 (hO : Ok m) (c : Dev nD) (t : Fin (cfgM m hO).N) (b : Fin 2) (hb : grid0.coords t 0 = b) (i : Fin 704) (hi : grid0.coords t 1 = i) (u : Fin 4) (h : Fin 128) (x : Fin 64) :
    (iblk m hO c 2 t : Vec Ideal S1x4x128x64 .bf16) (ix4 0 u h x) = (m ((c : Thread nD τ).loc main_arg2) : Vec Ideal S2x2816x128x64 .bf16) (ix4 b (_root_.Attend.row i u) h x) := by
  unfold iblk
  have e : ((cfgM m hO).win 2).index t = ![b.val, i.val, 0, 0] := (maps (grid0.coords t)).2.2.1.trans (by rw [hb, hi])
  have e' : (((cfgM m hO).win 2).blk t).view.emb (ix4 0 u h x : S1x4x128x64.Idx) = (ix4 b (_root_.Attend.row i u) h x : S2x2816x128x64.Idx) := by
    funext a
    apply Fin.ext
    blk_simp
    rw [congrFun e a]
    fin_cases a
    all_goals (simp [_root_.Attend.row]; try omega)
  refine (congrArg (V m c main_arg2) e').trans ?_
  exact congrFun (V_main_arg2 m c) _

/-- The block of codes: a whole sequence. -/
theorem blk3 (hO : Ok m) (c : Dev nD) (t : Fin (cfgM m hO).N) (b : Fin 2) (hb : grid0.coords t 0 = b) (i : Fin 704) (hi : grid0.coords t 1 = i) (k : Fin 2816) (x : Fin 512) :
    (iblk m hO c 3 t : Vec Ideal S1x2816x512 .fp8e4m3) (ix3 0 k x) = (m ((c : Thread nD τ).loc main_arg3) : Vec Ideal S2x2816x512 .fp8e4m3) (ix3 b k x) := by
  unfold iblk
  have e : ((cfgM m hO).win 3).index t = ![b.val, 0, 0] := (maps (grid0.coords t)).2.2.2.1.trans (by rw [hb])
  have e' : (((cfgM m hO).win 3).blk t).view.emb (ix3 0 k x : S1x2816x512.Idx) = (ix3 b k x : S2x2816x512.Idx) := by
    funext a
    apply Fin.ext
    blk_simp
    rw [congrFun e a]
    fin_cases a
    all_goals (simp [_root_.Attend.row]; try omega)
  refine (congrArg (V m c main_arg3) e').trans ?_
  exact congrFun (V_main_arg3 m c) _

/-- The block of transposed codes. -/
theorem blk4 (hO : Ok m) (c : Dev nD) (t : Fin (cfgM m hO).N) (b : Fin 2) (hb : grid0.coords t 0 = b) (i : Fin 704) (hi : grid0.coords t 1 = i) (x : Fin 512) (k : Fin 2816) :
    (iblk m hO c 4 t : Vec Ideal S1x512x2816 .fp8e4m3) (ix3 0 x k) = (m ((c : Thread nD τ).loc main_arg3) : Vec Ideal S2x2816x512 .fp8e4m3) (ix3 b k x) := by
  unfold iblk
  have e : ((cfgM m hO).win 4).index t = ![b.val, 0, 0] := (maps (grid0.coords t)).2.2.2.2.1.trans (by rw [hb])
  have e' : (((cfgM m hO).win 4).blk t).view.emb (ix3 0 x k : S1x512x2816.Idx) = (ix3 b x k : S2x512x2816.Idx) := by
    funext a
    apply Fin.ext
    blk_simp
    rw [congrFun e a]
    fin_cases a
    all_goals (simp [_root_.Attend.row]; try omega)
  refine (congrArg (V m c main_v1) e').trans ?_
  entry_read
  pointwise

/-- The block of scales, one copy per lane. -/
theorem blk5 (hO : Ok m) (c : Dev nD) (t : Fin (cfgM m hO).N) (b : Fin 2) (hb : grid0.coords t 0 = b) (i : Fin 704) (hi : grid0.coords t 1 = i) (k : Fin 2816) (x : Fin 128) :
    (iblk m hO c 5 t : Vec Ideal S1x2816x128 .f32) (ix3 0 k x) = (m ((c : Thread nD τ).loc main_arg4) : Vec Ideal S2x2816 .f32) (ix2 b k) := by
  unfold iblk
  have e : ((cfgM m hO).win 5).index t = ![b.val, 0, 0] := (maps (grid0.coords t)).2.2.2.2.2.1.trans (by rw [hb])
  have e' : (((cfgM m hO).win 5).blk t).view.emb (ix3 0 k x : S1x2816x128.Idx) = (ix3 b k x : S2x2816x128.Idx) := by
    funext a
    apply Fin.ext
    blk_simp
    rw [congrFun e a]
    fin_cases a
    all_goals (simp [_root_.Attend.row]; try omega)
  refine (congrArg (V m c main_v3) e').trans ?_
  entry_read
  pointwise

/-- The block of rope keys. -/
theorem blk6 (hO : Ok m) (c : Dev nD) (t : Fin (cfgM m hO).N) (b : Fin 2) (hb : grid0.coords t 0 = b) (i : Fin 704) (hi : grid0.coords t 1 = i) (k : Fin 2816) (x : Fin 64) :
    (iblk m hO c 6 t : Vec Ideal S1x2816x64 .bf16) (ix3 0 k x) = (m ((c : Thread nD τ).loc main_arg5) : Vec Ideal S2x2816x64 .bf16) (ix3 b k x) := by
  unfold iblk
  have e : ((cfgM m hO).win 6).index t = ![b.val, 0, 0] := (maps (grid0.coords t)).2.2.2.2.2.2.1.trans (by rw [hb])
  have e' : (((cfgM m hO).win 6).blk t).view.emb (ix3 0 k x : S1x2816x64.Idx) = (ix3 b k x : S2x2816x64.Idx) := by
    funext a
    apply Fin.ext
    blk_simp
    rw [congrFun e a]
    fin_cases a
    all_goals (simp [_root_.Attend.row]; try omega)
  refine (congrArg (V m c main_arg5) e').trans ?_
  exact congrFun (V_main_arg5 m c) _

/-- The point's scores are the arrays'. -/
theorem sc_eq (hO : Ok m) (c : Dev nD) (t : Fin (cfgM m hO).N) (b : Fin 2) (hb : grid0.coords t 0 = b) (i : Fin 704) (hi : grid0.coords t 1 = i) (u : Fin 4) (h : Fin 128) :
    scB (iblk m hO c 0 t) (iblk m hO c 1 t) (iblk m hO c 2 t) (iblk m hO c 3 t) (iblk m hO c 5 t) (iblk m hO c 6 t) (4 * i.val + u.val) u h
      = _root_.Attend.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (_root_.Attend.row i u) h := by
  funext k
  unfold scB _root_.Attend.score
  refine if_congr Iff.rfl ?_ rfl
  rw [blk1 m hO c t b hb i hi u h, blk5 m hO c t b hb i hi]
  refine congrArg (· * _) (congrArg₂ (· + ·) (congrArg (· * _) (Finset.sum_congr rfl fun x _ => ?_)) (Finset.sum_congr rfl fun x _ => ?_))
  · rw [blk3 m hO c t b hb i hi, blk0 m hO c t b hb i hi]; rfl
  · rw [blk6 m hO c t b hb i hi, blk2 m hO c t b hb i hi]; rfl

/-- The point's scales are the arrays'. -/
theorem cs_eq (hO : Ok m) (c : Dev nD) (t : Fin (cfgM m hO).N) (b : Fin 2) (hb : grid0.coords t 0 = b) (i : Fin 704) (hi : grid0.coords t 1 = i) : csB (iblk m hO c 5 t) = _root_.Attend.scales (m ((c : Thread nD τ).loc main_arg4)) b := by
  funext k
  exact blk5 m hO c t b hb i hi _ _

/-- The point's values are the arrays'. -/
theorem ct_eq (hO : Ok m) (c : Dev nD) (t : Fin (cfgM m hO).N) (b : Fin 2) (hb : grid0.coords t 0 = b) (i : Fin 704) (hi : grid0.coords t 1 = i) (d : Fin 512) : ctB (iblk m hO c 4 t) d = _root_.Attend.vals (m ((c : Thread nD τ).loc main_arg3)) b d := by
  funext k
  exact blk4 m hO c t b hb i hi _ _

/-- The point's length is its sequence's. -/
theorem len_eq (hO : Ok m) (c : Dev nD) (t : Fin (cfgM m hO).N) (b : Fin 2) (hb : grid0.coords t 0 = b) (i : Fin 704) (hi : grid0.coords t 1 = i) : lenW c (grid0.coords t) (tbl m 0) = ((m ((c : Thread nD τ).loc main_arg6) : Vec Ideal S2 .i32)) (ix1 b) := by
  obtain rfl : c = 0 := Subsingleton.elim _ _
  subst hb
  exact congrFun (V_main_arg6 m 0) (ix1 _)

/-- A point visits the key blocks up to its tokens'. -/
theorem nkeys_eq (hO : Ok m) (c : Dev nD) (t : Fin (cfgM m hO).N) (b : Fin 2) (hb : grid0.coords t 0 = b) (i : Fin 704) (hi : grid0.coords t 1 = i) (u : Fin 4) : nkeys (grid0.coords t) = _root_.Attend.visited (_root_.Attend.row i u).val := by
  unfold nkeys _root_.Attend.visited _root_.Attend.row
  rw [hi]
  have := u.isLt
  show 256 * (i.val / 64 + 1) = 256 * ((4 * i.val + u.val) / 256 + 1)
  omega

/-- The output block, in terms of the arguments. -/
theorem point7 (hO : Ok m) (c : Dev nD) (t : Fin (cfgM m hO).N) (b : Fin 2) (hb : grid0.coords t 0 = b) (i : Fin 704) (hi : grid0.coords t 1 = i) (u : Fin 4) (h : Fin 128) (d : Fin 512) :
    o7 (iblk m hO c 0 t) (iblk m hO c 1 t) (iblk m hO c 2 t) (iblk m hO c 3 t) (iblk m hO c 4 t) (iblk m hO c 5 t) (iblk m hO c 6 t) (grid0.coords t) (lenW c (grid0.coords t) (tbl m 0)) (ix4 0 u h d)
      = _root_.Attend.outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b (_root_.Attend.row i u) h d := by
  unfold o7 _root_.Attend.outA
  rw [len_eq m hO c t b hb i hi, nkeys_eq m hO c t b hb i hi u, cs_eq m hO c t b hb i hi, hi]
  refine if_congr Iff.rfl ?_ rfl
  exact congrArg₂ (fun s v => _root_.Attend.outK _ s _ v) (sc_eq m hO c t b hb i hi u h) (ct_eq m hO c t b hb i hi d)

/-- The block of the logarithms, in terms of the arguments. -/
theorem point8 (hO : Ok m) (c : Dev nD) (t : Fin (cfgM m hO).N) (b : Fin 2) (hb : grid0.coords t 0 = b) (i : Fin 704) (hi : grid0.coords t 1 = i) (u : Fin 4) (h : Fin 128) :
    o8 (iblk m hO c 0 t) (iblk m hO c 1 t) (iblk m hO c 2 t) (iblk m hO c 3 t) (iblk m hO c 5 t) (iblk m hO c 6 t) (grid0.coords t) (lenW c (grid0.coords t) (tbl m 0)) (ix4 0 0 u h)
      = _root_.Attend.lseA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b (_root_.Attend.row i u) h := by
  unfold o8 _root_.Attend.lseA
  rw [len_eq m hO c t b hb i hi, nkeys_eq m hO c t b hb i hi u, hi]
  refine if_congr Iff.rfl ?_ rfl
  exact congrArg (fun s => _root_.Attend.lse _ s) (sc_eq m hO c t b hb i hi u h)

/-- Where an output block lies. -/
theorem emb7 (hO : Ok m) (t : Fin (cfgM m hO).N) (u : Fin 4) (h : Fin 128) (x : Fin 512) :
    (((cfgM m hO).win 7).blk t).view.emb (ix4 0 u h x : S1x4x128x512.Idx) = (ix4 (grid0.coords t 0) (_root_.Attend.row (grid0.coords t 1) u) h x : S2x2816x128x512.Idx) := by
  have e : ((cfgM m hO).win 7).index t = ![(grid0.coords t 0).val, (grid0.coords t 1).val, 0, 0] := (maps (grid0.coords t)).2.2.2.2.2.2.2.1
  funext a
  apply Fin.ext
  blk_simp
  rw [congrFun e a]
  fin_cases a
  all_goals (simp [_root_.Attend.row]; try omega)

/-- The output blocks cover the array. -/
theorem covers7 (hO : Ok m) : ((cfgM m hO).win 7).Covers :=
  Pipeline.Window.covers_of_indexMap_surj _ rfl (fun a => (by decide : ∀ a : Fin 4, 0 < (![1, 4, 128, 512] : Fin 4 → ℕ) a) a) fun β =>
by
    have n0 : ((cfgM m hO).win 7).nblk (0 : Fin 4) = 2 := by simp [Pipeline.Window.nblk]
    have n1 : ((cfgM m hO).win 7).nblk (1 : Fin 4) = 704 := by simp [Pipeline.Window.nblk]
    have n2 : ((cfgM m hO).win 7).nblk (2 : Fin 4) = 1 := by simp [Pipeline.Window.nblk]
    have n3 : ((cfgM m hO).win 7).nblk (3 : Fin 4) = 1 := by simp [Pipeline.Window.nblk]
    exact ⟨pt ((β (0 : Fin 4)).cast n0) ((β (1 : Fin 4)).cast n1), fun a => by
      refine (congrFun (maps _).2.2.2.2.2.2.2.1 a).trans ?_
      fin_cases a
      · rfl
      · rfl
      · exact (Nat.lt_one_iff.mp (n2 ▸ (β (2 : Fin 4)).isLt)).symm
      · exact (Nat.lt_one_iff.mp (n3 ▸ (β (3 : Fin 4)).isLt)).symm⟩

/-- Where a block of the logarithms lies. -/
theorem emb8 (hO : Ok m) (t : Fin (cfgM m hO).N) (u : Fin 4) (h : Fin 128) :
    (((cfgM m hO).win 8).blk t).view.emb (ix4 0 0 u h : S1x1x4x128.Idx) = (ix4 (grid0.coords t 0) (grid0.coords t 1) u h : S2x704x4x128.Idx) := by
  have e : ((cfgM m hO).win 8).index t = ![(grid0.coords t 0).val, (grid0.coords t 1).val, 0, 0] := (maps (grid0.coords t)).2.2.2.2.2.2.2.2
  funext a
  apply Fin.ext
  blk_simp
  rw [congrFun e a]
  fin_cases a
  all_goals (simp [_root_.Attend.row]; try omega)

/-- The blocks of the logarithms cover the array. -/
theorem covers8 (hO : Ok m) : ((cfgM m hO).win 8).Covers :=
  Pipeline.Window.covers_of_indexMap_surj _ rfl (fun a => (by decide : ∀ a : Fin 4, 0 < (![1, 1, 4, 128] : Fin 4 → ℕ) a) a) fun β =>
by
    have n0 : ((cfgM m hO).win 8).nblk (0 : Fin 4) = 2 := by simp [Pipeline.Window.nblk]
    have n1 : ((cfgM m hO).win 8).nblk (1 : Fin 4) = 704 := by simp [Pipeline.Window.nblk]
    have n2 : ((cfgM m hO).win 8).nblk (2 : Fin 4) = 1 := by simp [Pipeline.Window.nblk]
    have n3 : ((cfgM m hO).win 8).nblk (3 : Fin 4) = 1 := by simp [Pipeline.Window.nblk]
    exact ⟨pt ((β (0 : Fin 4)).cast n0) ((β (1 : Fin 4)).cast n1), fun a => by
      refine (congrFun (maps _).2.2.2.2.2.2.2.2 a).trans ?_
      fin_cases a
      · rfl
      · rfl
      · exact (Nat.lt_one_iff.mp (n2 ▸ (β (2 : Fin 4)).isLt)).symm
      · exact (Nat.lt_one_iff.mp (n3 ▸ (β (3 : Fin 4)).isLt)).symm⟩

/-- The output array after the run. -/
theorem final7 (hO : Ok m) (c : Dev nD) : (datsV m hO 0 c).arrAt 7 (cfgM m hO).N
    = (fun y : S2x2816x128x512.Idx => _root_.Attend.outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) (y 2) (y 3)) := by
  refine (datsV m hO 0 c).arrAt_eq_of_covers 7 _ (covers7 m hO) fun t _ y => ?_
  blk_simp
  rw [after0_7V]
  obtain ⟨u, h, d, rfl⟩ : ∃ u h d, y = (ix4 0 u h d : S1x4x128x512.Idx) :=
    ⟨y (1 : Fin 4), y (2 : Fin 4), y (3 : Fin 4), by
      funext k; fin_cases k
      · exact Subsingleton.elim (α := Fin 1) _ _
      all_goals rfl⟩
  refine (point7 m hO c t _ rfl _ rfl u h d).trans ?_
  rw [emb7 m hO t u h d]
  rfl

/-- The array of the logarithms after the run. -/
theorem final8 (hO : Ok m) (c : Dev nD) : (datsV m hO 0 c).arrAt 8 (cfgM m hO).N
    = (fun y : S2x704x4x128.Idx => _root_.Attend.lseA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (_root_.Attend.row (y 1) (y 2)) (y 3)) := by
  refine (datsV m hO 0 c).arrAt_eq_of_covers 8 _ (covers8 m hO) fun t _ y => ?_
  blk_simp
  rw [after0_8V]
  obtain ⟨u, h, rfl⟩ : ∃ u h, y = (ix4 0 0 u h : S1x1x4x128.Idx) :=
    ⟨y (2 : Fin 4), y (3 : Fin 4), by
      funext k; fin_cases k
      · exact Subsingleton.elim (α := Fin 1) _ _
      · exact Subsingleton.elim (α := Fin 1) _ _
      all_goals rfl⟩
  refine (point8 m hO c t _ rfl _ rfl u h).trans ?_
  rw [emb8 m hO t u h]
  rfl

end Cert.KernelIdeal.Attend

end
-- ==== Proof.KernelIdeal.Value.lean ====
/- The kernel's run on the extended reals: its two results at every token, and the arguments unchanged. -/
module

public import proofs.«01_k».proof.Proof.KernelIdeal.Frame
public import proofs.«01_k».proof.Proof.KernelIdeal.Final

@[expose] public section

set_option maxRecDepth 16384

noncomputable section

namespace Cert.KernelIdeal.Attend

open Cert.KernelIdeal.Gen Cert.KernelIdeal
open Idealize.ShloMosaic Idealize.ShloMosaic.TcCoe
open Idealize.SL.Sem

variable (m : (ℓ : Loc nD τ sig) → Buf (Elt Ideal) ℓ) (ρ : Dev nD → PrngReg)

/-- The output array after the kernel's run. -/
def out0 (c : Dev nD) : S2x2816x128x512.Idx → EReal := fun y =>
  _root_.Attend.outA (m (c.tc.loc main_arg0)) (m (c.tc.loc main_arg1)) (m (c.tc.loc main_arg2)) (m (c.tc.loc main_arg3))
    (m (c.tc.loc main_arg4)) (m (c.tc.loc main_arg5)) (m (c.tc.loc main_arg6)) (y 0) (y 1) (y 2) (y 3)

/-- The array of the logarithms after the kernel's run. -/
def out1 (c : Dev nD) : S2x704x4x128.Idx → EReal := fun y =>
  _root_.Attend.lseA (m (c.tc.loc main_arg0)) (m (c.tc.loc main_arg1)) (m (c.tc.loc main_arg2)) (m (c.tc.loc main_arg3))
    (m (c.tc.loc main_arg4)) (m (c.tc.loc main_arg5)) (m (c.tc.loc main_arg6)) (y 0) (_root_.Attend.row (y 1) (y 2)) (y 3)

/-- The kernel's results. -/
theorem results : θ_run defs (onTc (τ := τ) (main (F := Ideal))) ⟨m, fun _ => 0, ρ⟩ (fun r => ∀ c : Dev nD,
    r.2.mem ((c.tc : Thread nD τ).loc main_v4_0) = out0 m c ∧ r.2.mem ((c.tc : Thread nD τ).loc main_v4_1) = out1 m c) := by
  refine (θ_run defs _ _).mono (fun r h c => ?_) (runV m ρ trivial)
  exact ⟨((h.1 c).1 7).trans (final7 m trivial c), ((h.1 c).1 8).trans (final8 m trivial c)⟩

/-- The kernel's run: the results and the arguments. -/
theorem run_values : θ_run defs (onTc (τ := τ) (main (F := Ideal))) ⟨m, fun _ => 0, ρ⟩ (fun r => ∀ c : Dev nD,
    r.2.mem ((c.tc : Thread nD τ).loc main_v4_0) = out0 m c ∧ r.2.mem ((c.tc : Thread nD τ).loc main_v4_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1, (h.1 c).2, h.2.1 c⟩) (θ_run_and (results m ρ) (Cert.KernelIdeal.Attend.frame m ρ trivial))

end Cert.KernelIdeal.Attend

end
-- ==== Proof.ReferenceIdeal.Ops.lean ====
/- What each stretch of vector operations of the reference computes, element by element, on the extended reals. -/
module

public import proofs.«01_k».proof.Proof.Gen.ReferenceIdeal.Value
public import proofs.«01_k».proof.Proof.Math.Spec
public import Idealize.ShloMosaic.Lib.Pointwise

@[expose] public section

set_option maxRecDepth 16384

noncomputable section

namespace Cert.ReferenceIdeal.Attend

open Cert.ReferenceIdeal.Gen Cert.ReferenceIdeal
open Idealize.ShloMosaic Idealize.ShloMosaic.TcCoe Idealize.ShloMosaic.Tactic

/-- A score before the mask. -/
theorem pay6_at (v5 : Vec Ideal S2x2816x128x512 .fp8e4m3) (v6 : Vec Ideal S2x2816x128 .f32) (v7 : Vec Ideal S2x2816x128x64 .bf16)
    (v8 : Vec Ideal S2x2816x512 .fp8e4m3) (v9 : Vec Ideal S2x2816 .f32) (v10 : Vec Ideal S2x2816x64 .bf16)
    (b : Fin 2) (q : Fin 2816) (h : Fin 128) (k : Fin 2816) :
    k0_pay6 (F := Ideal) v5 v6 v7 v8 v9 v10 (ix4 b q h k)
      = ((∑ x : Fin 512, v5 (ix4 b q h x) * v8 (ix3 b k x)) * (v6 (ix3 b q h) * v9 (ix2 b k))
          + ∑ x : Fin 64, v7 (ix4 b q h x) * v10 (ix3 b k x)) * Ideal.ofBits .f32 1033096506#32 := by
  pointwise [k0_pay6]

/-- The mask: the key is not after the token. -/
theorem pay7_at (b : Fin 2) (q : Fin 2816) (h : Fin 128) (k : Fin 2816) :
    k0_pay7 (ix4 b q h k) = IntOp.cmpi .sle (BitVec.ofNat 32 k.val) (BitVec.ofNat 32 q.val) := by
  pointwise [k0_pay7, k0_pay5]

/-- The masked score. -/
theorem pay8_at (b : Fin 2) (q : Fin 2816) (h : Fin 128) (k : Fin 2816) :
    (k0_pay8 : FVec Ideal S2x2816x128x2816 .f32) (ix4 b q h k) = ⊥ := by
  pointwise [k0_pay8]
  rfl

/-- The largest along the keys. -/
theorem max_at (v : FVec Ideal S2x2816x128x2816 .f32) (b : Fin 2) (q : Fin 2816) (h : Fin 128) :
    multiReduction .maximumf [3] S2x2816x128 v 0xFF800000#32 reduces_S2x2816x128x2816_S2x2816x128 (.inl rfl) rfl (ix3 b q h)
     = Finset.univ.sup fun x : Fin 2816 => v (ix4 b q h x) := by
  simp only [← _root_.Attend.fold_max]
  pointwise []

/-- The sum along the keys. -/
theorem sum_at (v : FVec Ideal S2x2816x128x2816 .f32) (b : Fin 2) (q : Fin 2816) (h : Fin 128) :
    multiReduction .add [3] S2x2816x128 v 0x00000000#32 reduces_S2x2816x128x2816_S2x2816x128 (.inl rfl) rfl (ix3 b q h)
     = ∑ x : Fin 2816, v (ix4 b q h x) := by
  pointwise []

/-- One value per token and head, copied along the keys. -/
theorem keys_at (v : FVec Ideal S2x2816x128 .f32) (b : Fin 2) (q : Fin 2816) (h : Fin 128) (k : Fin 2816) :
    broadcastTo S2x2816x128x2816 (shapeCast S2x2816x128x1 v shapeCasts_S2x2816x128_S2x2816x128x1) broadcasts_S2x2816x128x1_S2x2816x128x2816 (ix4 b q h k) = v (ix3 b q h) := by
  pointwise []

/-- One value per token and head, copied along the columns. -/
theorem cols_at (v : FVec Ideal S2x2816x128 .f32) (b : Fin 2) (q : Fin 2816) (h : Fin 128) (d : Fin 512) :
    broadcastTo S2x2816x128x512 (shapeCast S2x2816x128x1 v shapeCasts_S2x2816x128_S2x2816x128x1) broadcasts_S2x2816x128x1_S2x2816x128x512 (ix4 b q h d) = v (ix3 b q h) := by
  pointwise []

/-- The keys' scales, copied along the tokens and heads. -/
theorem scales_at (v : Vec Ideal S2x2816 .f32) (b : Fin 2) (q : Fin 2816) (h : Fin 128) (k : Fin 2816) :
    broadcastTo S2x2816x128x2816 (shapeCast S2x1x1x2816 v shapeCasts_S2x2816_S2x1x1x2816) broadcasts_S2x1x1x2816_S2x2816x128x2816 (ix4 b q h k) = v (ix2 b k) := by
  pointwise []

/-- The second product: weights times values. -/
theorem dot_at (p : FVec Ideal S2x2816x128x2816 .fp8e4m3) (v : Vec Ideal S2x2816x512 .fp8e4m3) (b : Fin 2) (q : Fin 2816) (h : Fin 128) (d : Fin 512) :
    matmul (φ₂ := .fp8e4m3) dot_S2x2816x128x2816_S2x2816x512_S2x2816x128x512_3_1_12_2_0_0 none p v (constant (F := Ideal) S2x2816x128x512 .f32 0x00000000#32) (ix4 b q h d)
     = ∑ k : Fin 2816, p (ix4 b q h k) * v (ix3 b k d) := by
  pointwise []

/-- Sums, products, exponentials and logarithms of arrays, at an index. -/
theorem add_log_at {S : Shape} (M L : FVec Ideal S .f32) (i : S.Idx) : addf M (log L) i = M i + Ideal.log (L i) := rfl
theorem exp_sub_at {S : Shape} (M L : FVec Ideal S .f32) (i : S.Idx) : exp (subf M L) i = Ideal.exp (M i - L i) := rfl
theorem mulf_at {S : Shape} (M L : FVec Ideal S .f32) (i : S.Idx) : mulf M L i = M i * L i := rfl
theorem exp2_at {S : Shape} (M : FVec Ideal S .f32) (i : S.Idx) : exp2 M i = Ideal.exp2 (M i) := rfl

/-- The logarithm of the normaliser. -/
theorem pay10_at (v31 : FVec Ideal S2x2816x128x2816 .f32) (v33 : IVec S2x2816x128x2816 1) (v34 : FVec Ideal S2x2816x128x2816 .f32)
    (b : Fin 2) (q : Fin 2816) (h : Fin 128) :
    k0_pay10 (F := Ideal) v31 v33 v34 (ix3 b q h)
      = (Finset.univ.sup fun x : Fin 2816 => k0_pay9 (F := Ideal) v31 v33 v34 (ix4 b q h x))
        + Ideal.log (∑ k : Fin 2816, Ideal.exp (k0_pay9 (F := Ideal) v31 v33 v34 (ix4 b q h k)
            - Finset.univ.sup fun x : Fin 2816 => k0_pay9 (F := Ideal) v31 v33 v34 (ix4 b q h x))) := by
  unfold k0_pay10
  generalize k0_pay9 (F := Ideal) v31 v33 v34 = S
  dsimp only
  rw [add_log_at, max_at, sum_at]
  refine congrArg (fun y : EReal => (Finset.univ.sup fun x : Fin 2816 => S (ix4 b q h x)) + Ideal.log y) (Finset.sum_congr rfl fun k _ => ?_)
  rw [exp_sub_at, keys_at, max_at]

/-- A weight times its key's scale. -/
def weight (v9 : Vec Ideal S2x2816 .f32) (v31 : FVec Ideal S2x2816x128x2816 .f32) (v33 : IVec S2x2816x128x2816 1)
    (v34 : FVec Ideal S2x2816x128x2816 .f32) (b : Fin 2) (q : Fin 2816) (h : Fin 128) (k : Fin 2816) : EReal :=
  Ideal.exp (k0_pay9 (F := Ideal) v31 v33 v34 (ix4 b q h k) - k0_pay10 (F := Ideal) v31 v33 v34 (ix3 b q h)) * v9 (ix2 b k)

/-- The weights times the scales, as the reference makes them. -/
def wts (v9 : Vec Ideal S2x2816 .f32) (S : FVec Ideal S2x2816x128x2816 .f32) (L : FVec Ideal S2x2816x128 .f32) : FVec Ideal S2x2816x128x2816 .f32 :=
  mulf (exp (subf S (broadcastTo S2x2816x128x2816 (shapeCast S2x2816x128x1 L shapeCasts_S2x2816x128_S2x2816x128x1) broadcasts_S2x2816x128x1_S2x2816x128x2816)))
    (broadcastTo S2x2816x128x2816 (shapeCast S2x1x1x2816 v9 shapeCasts_S2x2816_S2x1x1x2816) broadcasts_S2x1x1x2816_S2x2816x128x2816)

theorem wts_at (v9 : Vec Ideal S2x2816 .f32) (S : FVec Ideal S2x2816x128x2816 .f32) (L : FVec Ideal S2x2816x128 .f32)
    (b : Fin 2) (q : Fin 2816) (h : Fin 128) (k : Fin 2816) :
    wts v9 S L (ix4 b q h k) = Ideal.exp (S (ix4 b q h k) - L (ix3 b q h)) * v9 (ix2 b k) := by
  unfold wts
  rw [mulf_at, exp_sub_at, keys_at, scales_at]

/-- The exponents, as the reference makes them from the largest weights. -/
def exps (A : FVec Ideal S2x2816x128 .f32) : FVec Ideal S2x2816x128 .f32 :=
  select (cmpf .oeq A (broadcast S2x2816x128 (Scalar.ofBits (F := Ideal) .f32 0x00000000#32)))
    (broadcast S2x2816x128 (Scalar.ofBits (F := Ideal) .f32 0x00000000#32))
    (addf (floor (divf (log (mulf A (broadcast S2x2816x128 (Scalar.ofBits (F := Ideal) .f32 0x3B124925#32))))
      (log (broadcast S2x2816x128 (Scalar.ofBits (F := Ideal) .f32 0x40000000#32))))) (broadcast S2x2816x128 (Scalar.ofBits (F := Ideal) .f32 0x3F800000#32)))

theorem exps_at (A : FVec Ideal S2x2816x128 .f32) (i : S2x2816x128.Idx) : exps A i = _root_.Attend.expoR (A i) := by
  unfold _root_.Attend.expoR
  pointwise [exps]

/-- The quantised weights, as the reference makes them. -/
def codes (W : FVec Ideal S2x2816x128x2816 .f32) (E : FVec Ideal S2x2816x128 .f32) : FVec Ideal S2x2816x128x2816 .fp8e4m3 :=
  truncf .fp8e4m3 (minimumf (broadcast S2x2816x128x2816 (Scalar.ofBits (F := Ideal) .f32 0x43E00000#32))
    (maximumf (broadcast S2x2816x128x2816 (Scalar.ofBits (F := Ideal) .f32 0x00000000#32))
      (mulf W (broadcastTo S2x2816x128x2816 (shapeCast S2x2816x128x1
        (exp2 (subf (broadcast S2x2816x128 (Scalar.ofBits (F := Ideal) .f32 0x00000000#32)) E)) shapeCasts_S2x2816x128_S2x2816x128x1)
        broadcasts_S2x2816x128x1_S2x2816x128x2816)))) bitsLt_fp8e4m3_f32

/-- The pattern of zero. -/
theorem zero_bits : Scalar.ofBits (F := Ideal) .f32 0x00000000#32 = (0 : EReal) := by
  pointwise []

theorem codes_at (W : FVec Ideal S2x2816x128x2816 .f32) (E : FVec Ideal S2x2816x128 .f32) (b : Fin 2) (q : Fin 2816) (h : Fin 128) (k : Fin 2816) :
    codes W E (ix4 b q h k) = min (Ideal.ofBits FTy.f32 1138753536#32) (max 0 (W (ix4 b q h k) * Ideal.exp2 (0 - E (ix3 b q h)))) := by
  have h1 := keys_at (exp2 (subf (broadcast S2x2816x128 (Scalar.ofBits (F := Ideal) .f32 0x00000000#32)) E)) b q h k
  have h2 : codes W E (ix4 b q h k) = min (Ideal.ofBits FTy.f32 1138753536#32) (max (Scalar.ofBits (F := Ideal) .f32 0x00000000#32)
      (W (ix4 b q h k) * Ideal.exp2 (Scalar.ofBits (F := Ideal) .f32 0x00000000#32 - E (ix3 b q h)))) :=
    congrArg (fun x : EReal => min (Ideal.ofBits FTy.f32 1138753536#32) (max (Scalar.ofBits (F := Ideal) .f32 0x00000000#32) (W (ix4 b q h k) * x))) h1
  rw [h2, zero_bits]

/-- The output before the token mask. -/
theorem pay11_at (v8 : Vec Ideal S2x2816x512 .fp8e4m3) (v9 : Vec Ideal S2x2816 .f32) (v31 : FVec Ideal S2x2816x128x2816 .f32)
    (v33 : IVec S2x2816x128x2816 1) (v34 : FVec Ideal S2x2816x128x2816 .f32) (b : Fin 2) (q : Fin 2816) (h : Fin 128) (d : Fin 512) :
    k0_pay11 (F := Ideal) v8 v9 v31 v33 v34 (ix4 b q h d)
      = (∑ k : Fin 2816, min (Ideal.ofBits FTy.f32 1138753536#32)
            (max 0 (weight v9 v31 v33 v34 b q h k
              * Ideal.exp2 (0 - _root_.Attend.expoR (Finset.univ.sup (weight v9 v31 v33 v34 b q h))))) * v8 (ix3 b k d))
        * Ideal.exp2 (_root_.Attend.expoR (Finset.univ.sup (weight v9 v31 v33 v34 b q h))) := by
  have hw : ∀ k, wts v9 (k0_pay9 v31 v33 v34) (k0_pay10 v31 v33 v34) (ix4 b q h k) = weight v9 v31 v33 v34 b q h k :=
    fun k => wts_at v9 _ _ b q h k
  generalize hW : wts v9 (k0_pay9 v31 v33 v34) (k0_pay10 v31 v33 v34) = W at hw
  have h0 : k0_pay11 (F := Ideal) v8 v9 v31 v33 v34
      = mulf (matmul (φ₂ := .fp8e4m3) dot_S2x2816x128x2816_S2x2816x512_S2x2816x128x512_3_1_12_2_0_0 none
            (codes W (exps (multiReduction .maximumf [3] S2x2816x128 W 0xFF800000#32 reduces_S2x2816x128x2816_S2x2816x128 (.inl rfl) rfl)))
            v8 (constant (F := Ideal) S2x2816x128x512 .f32 0x00000000#32))
          (broadcastTo S2x2816x128x512 (shapeCast S2x2816x128x1
            (exp2 (exps (multiReduction .maximumf [3] S2x2816x128 W 0xFF800000#32 reduces_S2x2816x128x2816_S2x2816x128 (.inl rfl) rfl)))
            shapeCasts_S2x2816x128_S2x2816x128x1) broadcasts_S2x2816x128x1_S2x2816x128x512) := by
    subst hW; rfl
  rw [h0]
  have hA : multiReduction .maximumf [3] S2x2816x128 W 0xFF800000#32 reduces_S2x2816x128x2816_S2x2816x128 (.inl rfl) rfl (ix3 b q h)
      = Finset.univ.sup (weight v9 v31 v33 v34 b q h) := (max_at W b q h).trans (by simp only [hw])
  generalize multiReduction .maximumf [3] S2x2816x128 W 0xFF800000#32 reduces_S2x2816x128x2816_S2x2816x128 (.inl rfl) rfl = A at hA
  have hE : exps A (ix3 b q h) = _root_.Attend.expoR (Finset.univ.sup (weight v9 v31 v33 v34 b q h)) := (exps_at A _).trans (by rw [hA])
  generalize exps A = E at hE
  rw [mulf_at, dot_at, cols_at, exp2_at, hE]
  simp only [codes_at, hw, hE]

/-- The token mask. -/
theorem pay1_at (v0 v1 : Elt Ideal .i32) (b : Fin 2) (q : Fin 2816) :
    k0_pay1 (k0_pay12 k0_pay5) (k0_pay13 (k0_pay4 (F := Ideal) v0 v1)) (ix2 b q)
      = IntOp.cmpi .slt (BitVec.ofNat 32 q.val) (if b.val < 1 then v0 else v1) := by
  pointwise [k0_pay1, k0_pay12, k0_pay13, k0_pay4, k0_pay5]
  rfl

/-- An element of the output: the masked one. -/
theorem pay2_at (v80 : FVec Ideal S2x2816x128x512 .f32) (v81 : IVec S1x2816 32) (v82 : IVec S2x1 32) (b : Fin 2) (q : Fin 2816) (h : Fin 128) (d : Fin 512) :
    k0_pay2 (F := Ideal) v80 v81 v82 (ix4 b q h d) = Scalar.select (k0_pay1 v81 v82 (ix2 b q)) (v80 (ix4 b q h d)) 0 := by
  pointwise [k0_pay2]

/-- The same token, counted the other way. -/
theorem row_eq (i : Fin 704) (t : Fin 4) : (⟨i.val * 4 + t.val, by omega⟩ : Fin 2816) = _root_.Attend.row i t :=
  Fin.ext (by show i.val * 4 + t.val = 4 * i.val + t.val; omega)

/-- An element of the logarithms: the masked one of its token. -/
theorem pay3_at (v43 : FVec Ideal S2x2816x128 .f32) (v81 : IVec S1x2816 32) (v82 : IVec S2x1 32) (b : Fin 2) (i : Fin 704) (t : Fin 4) (h : Fin 128) :
    k0_pay3 (F := Ideal) v43 v81 v82 (ix4 b i t h)
      = Scalar.select (k0_pay1 v81 v82 (ix2 b (_root_.Attend.row i t))) (v43 (ix3 b (_root_.Attend.row i t) h)) 0 := by
  rw [← row_eq]
  pointwise [k0_pay3]

end Cert.ReferenceIdeal.Attend

end
-- ==== Proof.ReferenceIdeal.Final.lean ====
/- The reference's two result arrays after its run: at every token the attention over every key. -/
module

public import proofs.«01_k».proof.Proof.ReferenceIdeal.Ops
public import Idealize.ShloMosaic.Lib.Pipeline.ValueKit

@[expose] public section

set_option maxRecDepth 16384

noncomputable section

namespace Cert.ReferenceIdeal.Attend

open Cert.ReferenceIdeal.Gen Cert.ReferenceIdeal
open Idealize.ShloMosaic Idealize.ShloMosaic.TcCoe Idealize.ShloMosaic.Tactic

/-- The word of a position. -/
theorem pos_toInt (q : Fin 2816) : (BitVec.ofNat 32 q.val).toInt = (q.val : ℤ) :=
  (by decide +kernel : ∀ q : Fin 2816, (BitVec.ofNat 32 q.val).toInt = (q.val : ℤ)) q

/-- A choice by a decided bit. -/
theorem select_ofBool {α : Type} (p : Prop) [Decidable p] (a b : α) : Scalar.select (BitVec.ofBool (decide p)) a b = if p then a else b := by
  by_cases h : p <;> simp [h, Scalar.select]

/-- The causal mask. -/
theorem select_key (k q : Fin 2816) (a b : EReal) :
    Scalar.select (IntOp.cmpi .sle (BitVec.ofNat 32 k.val) (BitVec.ofNat 32 q.val)) a b = if k.val ≤ q.val then a else b := by
  rw [WordCmp.cmpi_sle_eq, pos_toInt, pos_toInt, select_ofBool]
  simp only [Nat.cast_le]

/-- The mask of the tokens past the sequence's length. -/
theorem select_tok (q : Fin 2816) (w : BitVec 32) (a b : EReal) :
    Scalar.select (IntOp.cmpi .slt (BitVec.ofNat 32 q.val) w) a b = if (q.val : ℤ) < w.toInt then a else b := by
  rw [WordCmp.cmpi_slt_eq, pos_toInt, select_ofBool]

/-- A choice, element by element. -/
theorem select_at {S : Shape} (p : IVec S 1) (a b : FVec Ideal S .f32) (i : S.Idx) : select p a b i = Scalar.select (p i) (a i) (b i) := rfl

/-- A key's number is the key. -/
theorem key_val (k : Fin 2816) : _root_.Attend.key k.val = k := Fin.ext (Nat.mod_eq_of_lt k.isLt)

/-- The largest over the keys, the keys counted by numbers. -/
theorem sup_keys (f : ℕ → EReal) : (Finset.univ.sup fun k : Fin 2816 => f k.val) = (Finset.range 2816).sup f := by
  apply le_antisymm
  · exact Finset.sup_le fun k _ => Finset.le_sup (f := f) (Finset.mem_range.mpr k.isLt)
  · exact Finset.sup_le fun k hk => Finset.le_sup (f := fun k : Fin 2816 => f k.val) (Finset.mem_univ ⟨k, Finset.mem_range.mp hk⟩)

section
variable (qc : Vec Ideal S2x2816x128x512 .fp8e4m3) (qs : Vec Ideal S2x2816x128 .f32) (qr : Vec Ideal S2x2816x128x64 .bf16)
  (cc : Vec Ideal S2x2816x512 .fp8e4m3) (cs : Vec Ideal S2x2816 .f32) (kr : Vec Ideal S2x2816x64 .bf16) (ln : Vec Ideal S2 .i32)

/-- The masked scores. -/
theorem score_at (b : Fin 2) (q : Fin 2816) (h : Fin 128) (k : Fin 2816) :
    k0_pay9 (F := Ideal) (k0_pay6 qc qs qr cc cs kr) k0_pay7 k0_pay8 (ix4 b q h k) = _root_.Attend.score qc qs qr cc cs kr b q h k.val := by
  unfold k0_pay9 _root_.Attend.score
  rw [select_at, pay6_at, pay7_at, pay8_at, select_key, key_val]
  simp only [mul_comm (qc _), mul_comm (qr _), mul_comm (qs _)]

/-- The logarithm of the normaliser. -/
theorem lse_at (b : Fin 2) (q : Fin 2816) (h : Fin 128) :
    k0_pay10 (F := Ideal) (k0_pay6 qc qs qr cc cs kr) k0_pay7 k0_pay8 (ix3 b q h) = _root_.Attend.lse 2816 (_root_.Attend.score qc qs qr cc cs kr b q h) := by
  rw [pay10_at]
  simp only [score_at]
  unfold _root_.Attend.lse _root_.Attend.ll _root_.Attend.tt _root_.Attend.mx
  rw [Finset.sum_range, sup_keys]

/-- The weights times the scales. -/
theorem weight_eq (b : Fin 2) (q : Fin 2816) (h : Fin 128) (k : Fin 2816) :
    weight cs (k0_pay6 qc qs qr cc cs kr) k0_pay7 k0_pay8 b q h k
      = _root_.Attend.ww 2816 (_root_.Attend.score qc qs qr cc cs kr b q h) (_root_.Attend.scales cs b) k.val := by
  unfold weight _root_.Attend.ww _root_.Attend.scales
  rw [score_at, lse_at, key_val]

/-- The output before the token mask. -/
theorem out_at (b : Fin 2) (q : Fin 2816) (h : Fin 128) (d : Fin 512) :
    k0_pay11 (F := Ideal) cc cs (k0_pay6 qc qs qr cc cs kr) k0_pay7 k0_pay8 (ix4 b q h d)
      = _root_.Attend.outR 2816 (_root_.Attend.score qc qs qr cc cs kr b q h) (_root_.Attend.scales cs b) (_root_.Attend.vals cc b d) := by
  rw [pay11_at]
  have hw : weight cs (k0_pay6 qc qs qr cc cs kr) k0_pay7 k0_pay8 b q h
      = fun k : Fin 2816 => _root_.Attend.ww 2816 (_root_.Attend.score qc qs qr cc cs kr b q h) (_root_.Attend.scales cs b) k.val :=
    funext fun k => weight_eq qc qs qr cc cs kr b q h k
  rw [hw]
  unfold _root_.Attend.outR
  rw [Finset.sum_range, sup_keys]
  simp only [_root_.Attend.vals, key_val]

/-- The length of a sequence. -/
theorem len_if (b : Fin 2) : (if b.val < 1 then ln (ix1 0) else ln (ix1 1)) = ln (ix1 b) := by
  fin_cases b <;> rfl

/-- An element of the output. -/
theorem outB_at (b : Fin 2) (q : Fin 2816) (h : Fin 128) (d : Fin 512) :
    k0_pay2 (F := Ideal) (k0_pay11 cc cs (k0_pay6 qc qs qr cc cs kr) k0_pay7 k0_pay8) (k0_pay12 k0_pay5) (k0_pay13 (k0_pay4 (F := Ideal) (ln (ix1 0)) (ln (ix1 1)))) (ix4 b q h d)
      = _root_.Attend.outB qc qs qr cc cs kr ln b q h d := by
  rw [pay2_at, pay1_at, select_tok, len_if, out_at]
  rfl

/-- An element of the logarithms. -/
theorem lseB_at (b : Fin 2) (i : Fin 704) (t : Fin 4) (h : Fin 128) :
    k0_pay3 (F := Ideal) (k0_pay10 (k0_pay6 qc qs qr cc cs kr) k0_pay7 k0_pay8) (k0_pay12 k0_pay5) (k0_pay13 (k0_pay4 (F := Ideal) (ln (ix1 0)) (ln (ix1 1)))) (ix4 b i t h)
      = _root_.Attend.lseB qc qs qr cc cs kr ln b (_root_.Attend.row i t) h := by
  rw [pay3_at, pay1_at, select_tok, len_if, lse_at]
  rfl

end

variable (m : (ℓ : Loc nD τ sig) → Buf (Elt Ideal) ℓ)

/-- Every window's block index at the one point. -/
theorem idx : ∀ t : Fin cfg0.N, win0_0.index t = ![0] ∧ win0_1.index t = ![0, 0, 0, 0] ∧ win0_2.index t = ![0, 0, 0] ∧ win0_3.index t = ![0, 0, 0, 0] ∧ win0_4.index t = ![0, 0, 0]
    ∧ win0_5.index t = ![0, 0] ∧ win0_6.index t = ![0, 0, 0] ∧ win0_7.index t = ![0, 0, 0, 0] ∧ win0_8.index t = ![0, 0, 0, 0] :=
  (by decide +kernel : ∀ t : Fin grid0.N, _)

/-- The one point's input blocks are the argument arrays. -/
theorem iblk0 (c : Dev nD) : iblk m c 0 t0_0 = m ((c : Thread nD τ).loc main_arg6) := by
  blk_ext! [iblk, V, idx t0_0]
theorem iblk1 (c : Dev nD) : iblk m c 1 t0_0 = m ((c : Thread nD τ).loc main_arg0) := by
  blk_ext! [iblk, V, idx t0_0]
theorem iblk2 (c : Dev nD) : iblk m c 2 t0_0 = m ((c : Thread nD τ).loc main_arg1) := by
  blk_ext! [iblk, V, idx t0_0]
theorem iblk3 (c : Dev nD) : iblk m c 3 t0_0 = m ((c : Thread nD τ).loc main_arg2) := by
  blk_ext! [iblk, V, idx t0_0]
theorem iblk4 (c : Dev nD) : iblk m c 4 t0_0 = m ((c : Thread nD τ).loc main_arg3) := by
  blk_ext! [iblk, V, idx t0_0]
theorem iblk5 (c : Dev nD) : iblk m c 5 t0_0 = m ((c : Thread nD τ).loc main_arg4) := by
  blk_ext! [iblk, V, idx t0_0]
theorem iblk6 (c : Dev nD) : iblk m c 6 t0_0 = m ((c : Thread nD τ).loc main_arg5) := by
  blk_ext! [iblk, V, idx t0_0]

/-- The two lengths, read one by one. -/
theorem ld0 (x : Vec Ideal S2 .i32) : View.ld x (Rect.unit ![0] ![1] inb_S2_S1_0) (Shape.Idx.first (by decide)) = x (ix1 0) := by
  pointwise []
theorem ld1 (x : Vec Ideal S2 .i32) : View.ld x (Rect.unit ![1] ![1] inb_S2_S1_1) (Shape.Idx.first (by decide)) = x (ix1 1) := by
  pointwise []

/-- The output array after the run. -/
theorem final7 (c : Dev nD) : (dats m 0 c).arrAt 7 cfg0.N = (fun y : S2x2816x128x512.Idx =>
    _root_.Attend.outB (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (y 0) (y 1) (y 2) (y 3)) := by
  refine (dats m 0 c).arrAt_eq_of_after_last 7 t0_0 (by decide +kernel) _ fun j => ?_
  blk_simp
  rw [after0_7]
  unfold outsAt0
  frame_out
  simp only [iblk0, iblk1, iblk2, iblk3, iblk4, iblk5, iblk6]
  have e0 (x : Vec Ideal S2 .i32) : View.read (Elt Ideal) (View.whole cc0_stg0_0) ((hs0_0 t0_0).unread x) = x := (hs0_0 t0_0).read_unread x
  have e1 (x : Vec Ideal S2x2816x128x512 .fp8e4m3) : View.read (Elt Ideal) (View.whole cc0_stg1_0) ((hs0_1 t0_0).unread x) = x := (hs0_1 t0_0).read_unread x
  have e2 (x : Vec Ideal S2x2816x128 .f32) : View.read (Elt Ideal) (View.whole cc0_stg2_0) ((hs0_2 t0_0).unread x) = x := (hs0_2 t0_0).read_unread x
  have e3 (x : Vec Ideal S2x2816x128x64 .bf16) : View.read (Elt Ideal) (View.whole cc0_stg3_0) ((hs0_3 t0_0).unread x) = x := (hs0_3 t0_0).read_unread x
  have e4 (x : Vec Ideal S2x2816x512 .fp8e4m3) : View.read (Elt Ideal) (View.whole cc0_stg4_0) ((hs0_4 t0_0).unread x) = x := (hs0_4 t0_0).read_unread x
  have e5 (x : Vec Ideal S2x2816 .f32) : View.read (Elt Ideal) (View.whole cc0_stg5_0) ((hs0_5 t0_0).unread x) = x := (hs0_5 t0_0).read_unread x
  have e6 (x : Vec Ideal S2x2816x64 .bf16) : View.read (Elt Ideal) (View.whole cc0_stg6_0) ((hs0_6 t0_0).unread x) = x := (hs0_6 t0_0).read_unread x
  rw [e0, e1, e2, e3, e4, e5, e6, ld0, ld1]
  have hj : ix4 (j 0) (j 1) (j 2) (j 3) = j := by funext a; fin_cases a <;> rfl
  exact (congrArg _ hj.symm).trans (outB_at _ _ _ _ _ _ _ (j 0) (j 1) (j 2) (j 3))

/-- The array of the logarithms after the run. -/
theorem final8 (c : Dev nD) : (dats m 0 c).arrAt 8 cfg0.N = (fun y : S2x704x4x128.Idx =>
    _root_.Attend.lseB (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (y 0) (_root_.Attend.row (y 1) (y 2)) (y 3)) := by
  refine (dats m 0 c).arrAt_eq_of_after_last 8 t0_0 (by decide +kernel) _ fun j => ?_
  blk_simp
  rw [after0_8]
  unfold outsAt0
  frame_out
  simp only [iblk0, iblk1, iblk2, iblk3, iblk4, iblk5, iblk6]
  have e0 (x : Vec Ideal S2 .i32) : View.read (Elt Ideal) (View.whole cc0_stg0_0) ((hs0_0 t0_0).unread x) = x := (hs0_0 t0_0).read_unread x
  have e1 (x : Vec Ideal S2x2816x128x512 .fp8e4m3) : View.read (Elt Ideal) (View.whole cc0_stg1_0) ((hs0_1 t0_0).unread x) = x := (hs0_1 t0_0).read_unread x
  have e2 (x : Vec Ideal S2x2816x128 .f32) : View.read (Elt Ideal) (View.whole cc0_stg2_0) ((hs0_2 t0_0).unread x) = x := (hs0_2 t0_0).read_unread x
  have e3 (x : Vec Ideal S2x2816x128x64 .bf16) : View.read (Elt Ideal) (View.whole cc0_stg3_0) ((hs0_3 t0_0).unread x) = x := (hs0_3 t0_0).read_unread x
  have e4 (x : Vec Ideal S2x2816x512 .fp8e4m3) : View.read (Elt Ideal) (View.whole cc0_stg4_0) ((hs0_4 t0_0).unread x) = x := (hs0_4 t0_0).read_unread x
  have e5 (x : Vec Ideal S2x2816 .f32) : View.read (Elt Ideal) (View.whole cc0_stg5_0) ((hs0_5 t0_0).unread x) = x := (hs0_5 t0_0).read_unread x
  have e6 (x : Vec Ideal S2x2816x64 .bf16) : View.read (Elt Ideal) (View.whole cc0_stg6_0) ((hs0_6 t0_0).unread x) = x := (hs0_6 t0_0).read_unread x
  rw [e0, e1, e2, e3, e4, e5, e6, ld0, ld1]
  have hj : ix4 (j 0) (j 1) (j 2) (j 3) = j := by funext a; fin_cases a <;> rfl
  exact (congrArg _ hj.symm).trans (lseB_at _ _ _ _ _ _ _ (j 0) (j 1) (j 2) (j 3))

end Cert.ReferenceIdeal.Attend

end
-- ==== Proof.Math.Powers.lean ====
/- The powers of two behind the quantiser's scale: the kernel's, read off an exponent field and put back as bits, and the
   reference's, from a logarithm. -/
module

public import proofs.«01_k».proof.Proof.Math.Attend

@[expose] public section

noncomputable section

namespace Attend

open Idealize.ShloMosaic

/-- The word with exponent field `k` and nothing else. -/
abbrev pw (k : ℕ) : BitVec 32 := IntOp.shli ArithUnit.vector (BitVec.ofNat 32 k) 23#32

/-- The number a positive normal word stands for. -/
theorem f32_normal (b : BitVec 32) (ex fr : ℕ) (hn : (b.extractLsb' 31 1 == 1#1) = false) (he : (b.extractLsb' 23 8).toNat = ex)
    (hf : (b.extractLsb' 0 23).toNat = fr) (h1 : ex ≠ 255) (h0 : ex ≠ 0) :
    Ideal.ofBits FTy.f32 b = (((8388608 + fr : ℝ) * (2 : ℝ) ^ ((ex : ℤ) - 150) : ℝ) : EReal) := by
  show Ideal.ieee 8 23 b = _
  unfold Ideal.ieee
  simp only [Nat.reduceAdd, hn, he, hf]
  rw [if_neg (by omega), if_neg h0]
  refine congrArg Real.toEReal ?_
  rw [show ((ex : ℤ) - (2 ^ (8 - 1) - 1) - (23 : ℕ)) = (ex : ℤ) - 150 by norm_num; ring]
  push_cast
  norm_num

/-- The number such a word stands for. -/
theorem ofBits_pw (k : Fin 256) :
    Ideal.ofBits FTy.f32 (pw k.val) = if k.val = 255 then ⊤ else if k.val = 0 then 0 else (((2 : ℝ) ^ ((k.val : ℤ) - 127) : ℝ) : EReal) := by
  have hn : ((pw k.val).extractLsb' 31 1 == 1#1) = false := (by decide +kernel : ∀ k : Fin 256, ((pw k.val).extractLsb' 31 1 == 1#1) = false) k
  have he : ((pw k.val).extractLsb' 23 8).toNat = k.val := (by decide +kernel : ∀ k : Fin 256, ((pw k.val).extractLsb' 23 8).toNat = k.val) k
  have hf : ((pw k.val).extractLsb' 0 23).toNat = 0 := (by decide +kernel : ∀ k : Fin 256, ((pw k.val).extractLsb' 0 23).toNat = 0) k
  by_cases h1 : k.val = 255
  · show Ideal.ieee 8 23 (pw k.val) = _
    unfold Ideal.ieee
    simp only [Nat.reduceAdd, hn, he, hf]
    simp [h1]
  · by_cases h2 : k.val = 0
    · show Ideal.ieee 8 23 (pw k.val) = _
      unfold Ideal.ieee
      simp only [Nat.reduceAdd, hn, he, hf]
      simp [h2]
    · rw [f32_normal _ k.val 0 hn he hf h1 h2, if_neg h1, if_neg h2]
      refine congrArg Real.toEReal ?_
      rw [show (k.val : ℤ) - 150 = ((k.val : ℤ) - 127) - 23 by ring, zpow_sub₀ (by norm_num : (2 : ℝ) ≠ 0) ((k.val : ℤ) - 127) 23]
      generalize (2 : ℝ) ^ ((k.val : ℤ) - 127) = y
      norm_num
      ring

/-- The rounded `1 / 448` of the two programs. -/
theorem ofBits_c : Ideal.ofBits FTy.f32 991054117#32 = ((9586981 / 4294967296 : ℝ) : EReal) := by
  rw [f32_normal _ 118 1198373 (by decide) (by decide) (by decide) (by decide) (by decide)]
  norm_num

/-- The largest fp8 number. -/
theorem ofBits_448 : Ideal.ofBits FTy.f32 1138753536#32 = ((448 : ℝ) : EReal) := by
  rw [f32_normal _ 135 6291456 (by decide) (by decide) (by decide) (by decide) (by decide)]
  norm_num

/-- Two. -/
theorem ofBits_two : Ideal.ofBits FTy.f32 1073741824#32 = ((2 : ℝ) : EReal) := by
  rw [f32_normal _ 128 0 (by decide) (by decide) (by decide) (by decide) (by decide)]
  norm_num

/-- The greatest finite number. -/
theorem ofBits_max : Ideal.ofBits FTy.f32 0x7F7FFFFF#32 = ((16777215 * 2 ^ 104 : ℝ) : EReal) := by
  rw [f32_normal _ 254 8388607 (by decide) (by decide) (by decide) (by decide) (by decide)]
  norm_num

/-- The signed larger of two words. -/
theorem toInt_maxsi (x y : BitVec 32) : (IntOp.maxsi x y).toInt = max x.toInt y.toInt := by
  unfold IntOp.maxsi
  by_cases h : y.slt x = true
  · rw [if_pos h]
    have := (BitVec.slt_iff_toInt_lt ..).mp h
    omega
  · rw [if_neg h]
    have := mt (BitVec.slt_iff_toInt_lt ..).mpr h
    omega

/-- A small word's number. -/
theorem toInt_small (k : Fin 256) : (BitVec.ofNat 32 k.val).toInt = (k.val : ℤ) :=
  (by decide +kernel : ∀ k : Fin 256, (BitVec.ofNat 32 k.val).toInt = (k.val : ℤ)) k

/-- The field of a number below `2 ^ 120` is that of the power of two at or below it. -/
theorem field_spec (x : ℝ) (hx : x < (2 : ℝ) ^ (120 : ℤ)) :
    ∃ f : ℕ, f ≤ 252 ∧ field (x : EReal) = BitVec.ofNat 32 f ∧ x < (2 : ℝ) ^ ((f : ℤ) - 126) := by
  set g : Fin 256 → BitVec 32 := fun k => if Ideal.ofBits FTy.f32 (pw k.val) ≤ (x : EReal) then BitVec.ofNat 32 k.val else 0#32 with hg
  have hup : ∀ k, (g k).toInt ≤ (field (x : EReal)).toInt := by
    have h := (Finset.fold_op_rel_iff_and (op := IntOp.maxsi (w := 32)) (f := g) (s := Finset.univ) (b := 2147483648#32)
      (r := fun a b => b.toInt ≤ a.toInt) (c := field (x : EReal)) (fun {a b c} => by rw [toInt_maxsi]; exact max_le_iff)).mp le_rfl
    exact fun k => h.2 k (Finset.mem_univ k)
  have hat : ∃ k, field (x : EReal) = g k := by
    have h := (Finset.fold_op_rel_iff_or (op := IntOp.maxsi (w := 32)) (f := g) (s := Finset.univ) (b := 2147483648#32)
      (r := fun a b => a.toInt ≤ b.toInt) (c := field (x : EReal)) (fun {a b c} => by rw [toInt_maxsi]; exact le_max_iff)).mp le_rfl
    rcases h with h | ⟨k, -, h⟩
    · have h0 := hup 0
      have : (g 0).toInt = 0 := by simp [hg]
      have : (2147483648#32).toInt = -2147483648 := by decide
      omega
    · exact ⟨k, BitVec.eq_of_toInt_eq (le_antisymm h (hup k))⟩
  have hbig : ∀ k : Fin 256, 247 ≤ k.val → ¬ Ideal.ofBits FTy.f32 (pw k.val) ≤ (x : EReal) := by
    intro k hk h
    rw [ofBits_pw] at h
    by_cases h1 : k.val = 255
    · rw [if_pos h1] at h
      exact absurd (top_le_iff.mp h) (EReal.coe_ne_top x)
    · rw [if_neg h1, if_neg (by omega), EReal.coe_le_coe_iff] at h
      have := zpow_le_zpow_right₀ (by norm_num : (1 : ℝ) ≤ 2) (show (120 : ℤ) ≤ (k.val : ℤ) - 127 by omega)
      linarith
  obtain ⟨k, hk⟩ := hat
  obtain ⟨f, hf, hF⟩ : ∃ f : ℕ, f ≤ 246 ∧ field (x : EReal) = BitVec.ofNat 32 f := by
    by_cases h : Ideal.ofBits FTy.f32 (pw k.val) ≤ (x : EReal)
    · refine ⟨k.val, ?_, by rw [hk]; simp [hg, h]⟩
      by_contra h'
      exact hbig k (by omega) h
    · exact ⟨0, by omega, by rw [hk]; simp [hg, h]⟩
  refine ⟨f, by omega, hF, ?_⟩
  have h1 := hup ⟨f + 1, by omega⟩
  rw [hF] at h1
  have h2 : ¬ Ideal.ofBits FTy.f32 (pw (f + 1)) ≤ (x : EReal) := by
    intro h
    have e1 : g ⟨f + 1, by omega⟩ = BitVec.ofNat 32 (f + 1) := by simp [hg, h]
    rw [e1] at h1
    have a := toInt_small ⟨f + 1, by omega⟩
    have b := toInt_small ⟨f, by omega⟩
    simp only at a b
    rw [a, b] at h1
    push_cast at h1
    omega
  have h3 := ofBits_pw ⟨f + 1, by omega⟩
  simp only at h3
  rw [h3, if_neg (by omega), if_neg (by omega), EReal.coe_le_coe_iff] at h2
  have e : (((f + 1 : ℕ) : ℤ) - 127) = (f : ℤ) - 126 := by push_cast; ring
  rw [e] at h2
  exact not_le.mp h2

/-- The kernel's scale for a largest weight `a`: a power of two `R` with `a * R ≤ 448`, made from bits together with its
    inverse. -/
theorem kernel_scale (a : ℝ) (h0 : 0 ≤ a) (ha : a ≤ 16777215 * 2 ^ 104) :
    ∃ R : ℝ, 0 < R ∧ down (expo (a : EReal)) = (R : EReal) ∧ up (expo (a : EReal)) = ((R⁻¹ : ℝ) : EReal) ∧ a * R ≤ 448 := by
  by_cases hz : a = 0
  · subst hz
    have e : expo ((0 : ℝ) : EReal) = 0#32 := by simp [expo]
    have h127 := ofBits_pw ⟨127, by omega⟩
    simp only [show ¬ (127 = 255) by decide, show ¬ (127 = 0) by decide, if_false] at h127
    refine ⟨1, one_pos, ?_, ?_, by norm_num⟩
    · rw [e]; refine h127.trans ?_; norm_num
    · rw [e]; refine h127.trans ?_; norm_num
  · have hpos : 0 < a := lt_of_le_of_ne h0 (Ne.symm hz)
    obtain ⟨f, hf, hF, hlt⟩ := field_spec (a * (9586981 / 4294967296)) (by
      have : (2 : ℝ) ^ (120 : ℤ) = 2 ^ (120 : ℕ) := by norm_cast
      rw [this]
      have : a * (9586981 / 4294967296) ≤ 16777215 * 2 ^ 104 * (9586981 / 4294967296) := by gcongr
      refine this.trans_lt ?_
      norm_num)
    have e : expo (a : EReal) = IntOp.subi (BitVec.ofNat 32 f) 126#32 := by
      unfold expo
      rw [if_neg (by exact_mod_cast hz), ofBits_c, ← EReal.coe_mul, hF]
    have hd : down (expo (a : EReal)) = Ideal.ofBits FTy.f32 (pw (253 - f)) := by
      rw [e]; unfold down
      rw [(by decide +kernel : ∀ f : Fin 253, IntOp.subi 127#32 (IntOp.subi (BitVec.ofNat 32 f.val) 126#32) = BitVec.ofNat 32 (253 - f.val)) ⟨f, by omega⟩]
    have hu : up (expo (a : EReal)) = Ideal.ofBits FTy.f32 (pw (f + 1)) := by
      rw [e]; unfold up
      rw [(by decide +kernel : ∀ f : Fin 253, IntOp.addi (IntOp.subi (BitVec.ofNat 32 f.val) 126#32) 127#32 = BitVec.ofNat 32 (f.val + 1)) ⟨f, by omega⟩]
    have h3 := ofBits_pw ⟨f + 1, by omega⟩
    have h4 := ofBits_pw ⟨253 - f, by omega⟩
    simp only at h3 h4
    rw [if_neg (by omega), if_neg (by omega)] at h3 h4
    have e1 : (((253 - f : ℕ) : ℤ) - 127) = -((f : ℤ) - 126) := by rw [Nat.cast_sub (by omega)]; push_cast; ring
    have e2 : (((f + 1 : ℕ) : ℤ) - 127) = (f : ℤ) - 126 := by push_cast; ring
    rw [e2] at h3
    rw [e1] at h4
    have hP : (0 : ℝ) < 2 ^ ((f : ℤ) - 126) := by positivity
    refine ⟨2 ^ (-((f : ℤ) - 126)), by positivity, hd.trans h4, hu.trans (h3.trans ?_), ?_⟩
    · rw [zpow_neg, inv_inv]
    · rw [zpow_neg, ← div_eq_mul_inv, div_le_iff₀ hP]
      nlinarith

/-- The reference's scale for a largest weight `a > 0`. -/
theorem reference_scale (a : ℝ) (ha : 0 < a) :
    ∃ R : ℝ, 0 < R ∧ Ideal.exp2 (0 - expoR (a : EReal)) = (R : EReal) ∧ Ideal.exp2 (expoR (a : EReal)) = ((R⁻¹ : ℝ) : EReal) ∧ a * R ≤ 448 := by
  set x : ℝ := a * (9586981 / 4294967296) with hx
  have hxp : 0 < x := by positivity
  have hl2 : 0 < Real.log 2 := Real.log_pos (by norm_num)
  set n : ℤ := ⌊Real.log x / Real.log 2⌋ + 1 with hn
  have e : expoR (a : EReal) = ((n : ℝ) : EReal) := by
    unfold expoR
    rw [if_neg (by exact_mod_cast ha.ne'), ofBits_c, ofBits_two, ← EReal.coe_mul, ← hx]
    have h1 : Ideal.log (x : EReal) = (Real.log x : EReal) := if_neg (not_le.mpr hxp)
    have h2 : Ideal.log ((2 : ℝ) : EReal) = (Real.log 2 : EReal) := if_neg (by norm_num)
    rw [h1, h2]
    unfold Ideal.div
    rw [if_neg (by exact_mod_cast hl2.ne'), ← EReal.coe_inv, ← EReal.coe_mul, ← div_eq_mul_inv]
    show ((⌊Real.log x / Real.log 2⌋ : ℝ) : EReal) + 1 = _
    rw [hn]
    push_cast
    rfl
  have hlt : x < 2 ^ n := by
    have h := Int.lt_floor_add_one (Real.log x / Real.log 2)
    rw [div_lt_iff₀ hl2] at h
    have h' : Real.log x < Real.log ((2 : ℝ) ^ n) := by
      rw [Real.log_zpow, hn]
      push_cast
      exact h
    exact (Real.log_lt_log_iff hxp (by positivity)).mp h'
  have hP : (0 : ℝ) < 2 ^ n := by positivity
  refine ⟨2 ^ (-n), by positivity, ?_, ?_, ?_⟩
  · rw [e, zero_sub, ← EReal.coe_neg]
    show ((Real.rpow 2 (-(n : ℝ)) : ℝ) : EReal) = _
    congr 1
    rw [← Real.rpow_intCast]
    push_cast
    rfl
  · rw [e, zpow_neg, inv_inv]
    show ((Real.rpow 2 (n : ℝ) : ℝ) : EReal) = _
    congr 1
    rw [← Real.rpow_intCast]
    rfl
  · rw [zpow_neg, ← div_eq_mul_inv, div_le_iff₀ hP]
    nlinarith

/-- Powers of two are not negative. -/
theorem exp2_nonneg (x : EReal) : 0 ≤ Ideal.exp2 x := by
  induction x with
  | bot => exact le_rfl
  | top => exact le_top
  | coe r => exact EReal.coe_nonneg.mpr (Real.rpow_nonneg (by norm_num) r)

/-- The reference's scale for an infinite weight. -/
theorem expoR_top : expoR ⊤ = ⊤ := by
  have hl2 : 0 < Real.log 2 := Real.log_pos (by norm_num)
  unfold expoR
  rw [if_neg (by simp), ofBits_c, ofBits_two, EReal.top_mul_coe_of_pos (by norm_num)]
  have h2 : Ideal.log ((2 : ℝ) : EReal) = (Real.log 2 : EReal) := if_neg (by norm_num)
  rw [h2]
  show Ideal.liftRound Int.floor (Ideal.div ⊤ (Real.log 2 : EReal)) + 1 = ⊤
  unfold Ideal.div
  rw [if_neg (by exact_mod_cast hl2.ne'), ← EReal.coe_inv, EReal.top_mul_coe_of_pos (inv_pos.mpr hl2)]
  show (⊤ : EReal) + 1 = ⊤
  exact EReal.top_add_coe 1

end Attend

end
-- ==== Proof.Math.Equal.lean ====
/- The kernel's arithmetic and the reference's give the same attention: the keys after the token weigh nothing, and a scale
   that is a power of two, with no quantised weight above the largest code, cancels. -/
module

public import proofs.«01_k».proof.Proof.Math.Powers
public import proofs.«01_k».proof.Proof.Math.Spec

@[expose] public section

noncomputable section

namespace Attend

open Idealize.ShloMosaic

/-! ## Keys after the token -/

section masked
variable {N M : ℕ} (hNM : N ≤ M) {s : ℕ → EReal} (hs : ∀ k, N ≤ k → s k = ⊥)
include hNM hs

/-- The largest score. -/
theorem mx_eq : mx N s = mx M s := by
  apply le_antisymm
  · exact Finset.sup_mono (Finset.range_subset_range.mpr hNM)
  · refine Finset.sup_le fun k _ => ?_
    by_cases h : k < N
    · exact Finset.le_sup (f := s) (Finset.mem_range.mpr h)
    · rw [hs k (by omega)]; exact bot_le

/-- The weights. -/
theorem tt_eq (k : ℕ) : tt N s k = tt M s k := by
  unfold tt; rw [mx_eq hNM hs]

omit hNM in
/-- A key after the token weighs nothing. -/
theorem tt_masked (k : ℕ) (hk : N ≤ k) : tt M s k = 0 := by
  unfold tt; rw [hs k hk, EReal.bot_sub]; rfl

/-- The sum of the weights. -/
theorem ll_eq : ll N s = ll M s := by
  unfold ll
  simp only [tt_eq hNM hs]
  refine Finset.sum_subset (Finset.range_subset_range.mpr hNM) fun k _ hk => ?_
  exact tt_masked hs k (by simpa using hk)

/-- The logarithm of the normaliser does not see the keys after the token. -/
theorem lse_eq : lse N s = lse M s := by
  unfold lse; rw [mx_eq hNM hs, ll_eq hNM hs]

/-- The largest weight times scale. -/
theorem aa_eq (cs : ℕ → EReal) : aa N s cs = aa M s cs := by
  unfold aa
  simp only [tt_eq hNM hs]
  apply le_antisymm
  · exact max_le_max le_rfl (Finset.sup_mono (Finset.range_subset_range.mpr hNM))
  · refine max_le (le_max_left _ _) (Finset.sup_le fun k _ => ?_)
    by_cases h : k < N
    · exact le_max_of_le_right (Finset.le_sup (f := fun k => tt M s k * cs k) (Finset.mem_range.mpr h))
    · rw [tt_masked hs k (by omega), zero_mul]; exact le_max_left _ _

/-- The kernel's output does not see the keys after the token. -/
theorem outK_eq (cs ct : ℕ → EReal) : outK N s cs ct = outK M s cs ct := by
  unfold outK
  simp only [tt_eq hNM hs, ll_eq hNM hs, aa_eq hNM hs]
  congr 1
  refine Finset.sum_subset (Finset.range_subset_range.mpr hNM) fun k _ hk => ?_
  rw [tt_masked hs k (by simpa using hk), zero_mul, zero_mul, max_self, ofBits_448, min_eq_right (by norm_num), mul_zero]

end masked

/-! ## One scale -/

/-- Quantised by a scale that keeps every weight at most the largest code, and scaled back, the weights are themselves. -/
theorem unscale (M : ℕ) (w ct : ℕ → EReal) (R : ℝ) (hR : 0 < R) (hw : ∀ k ∈ Finset.range M, w k * R ≤ ((448 : ℝ) : EReal)) :
    (∑ k ∈ Finset.range M, ct k * min ((448 : ℝ) : EReal) (max 0 (w k * R))) * ((R⁻¹ : ℝ) : EReal)
      = ∑ k ∈ Finset.range M, ct k * max 0 (w k) := by
  have h1 : ∀ k ∈ Finset.range M, ct k * min ((448 : ℝ) : EReal) (max 0 (w k * R)) = (ct k * max 0 (w k)) * R := by
    intro k hk
    rw [min_eq_right (max_le (by norm_num) (hw k hk)), mul_assoc]
    congr 1
    have hR' : (0 : EReal) ≤ (R : EReal) := EReal.coe_nonneg.mpr hR.le
    rcases le_total (w k) 0 with h | h
    · rw [max_eq_left h, zero_mul, max_eq_left (by simpa using mul_le_mul_of_nonneg_right h hR')]
    · rw [max_eq_right h, max_eq_right (mul_nonneg h hR')]
  rw [Finset.sum_congr rfl h1]
  have h2 : ∀ n : ℕ, (∑ k ∈ Finset.range n, (ct k * max 0 (w k)) * (R : EReal)) = (∑ k ∈ Finset.range n, ct k * max 0 (w k)) * R := by
    intro n
    induction n with
    | zero => simp
    | succ n ih =>
      rw [Finset.sum_range_succ, Finset.sum_range_succ, ih,
        EReal.right_distrib_of_nonneg_of_ne_top (EReal.coe_nonneg.mpr hR.le) (EReal.coe_ne_top R)]
  rw [h2, mul_assoc, ← EReal.coe_mul, mul_inv_cancel₀ hR.ne', EReal.coe_one, mul_one]

/-- Where no weight is positive the reference's output is zero. -/
theorem outR_nonpos (M : ℕ) (s cs ct : ℕ → EReal) (h : ∀ k ∈ Finset.range M, ww M s cs k * Ideal.exp2 (0 - expoR ((Finset.range M).sup (ww M s cs))) ≤ 0) :
    outR M s cs ct = 0 := by
  unfold outR
  rw [Finset.sum_eq_zero, zero_mul]
  intro k hk
  rw [max_eq_left (h k hk), ofBits_448, min_eq_right (by norm_num), zero_mul]

/-! ## The degenerate rows: no finite largest score -/

/-- Where every weight of the kernel is zero both outputs are zero. -/
theorem degenerate (M : ℕ) (s cs ct : ℕ → EReal) (ht : ∀ k ∈ Finset.range M, tt M s k = 0) : outK M s cs ct = outR M s cs ct := by
  have hK : outK M s cs ct = 0 := by
    unfold outK
    rw [Finset.sum_eq_zero, zero_mul]
    intro k hk
    rw [ht k hk, zero_mul, zero_mul, max_self, ofBits_448, min_eq_right (by norm_num), mul_zero]
  have hl : ll M s = 0 := Finset.sum_eq_zero ht
  have hlse : lse M s = ⊥ := by
    unfold lse
    rw [hl]
    have : Ideal.log 0 = ⊥ := if_pos le_rfl
    rw [this, EReal.add_bot]
  rw [hK]
  symm
  apply outR_nonpos
  by_cases ha : (Finset.range M).sup (ww M s cs) ≤ 0
  · intro k hk
    have := mul_le_mul_of_nonneg_right ((Finset.le_sup (f := ww M s cs) hk).trans ha) (exp2_nonneg (0 - expoR ((Finset.range M).sup (ww M s cs))))
    simpa using this
  · have hpos := not_le.mp ha
    obtain ⟨k, hk, hlt⟩ := (Finset.lt_sup_iff).mp hpos
    have htop : ww M s cs k = ⊤ := by
      unfold ww at hlt ⊢
      rw [hlse] at hlt ⊢
      rcases eq_or_ne (s k) ⊥ with h | h
      · rw [h, EReal.bot_sub] at hlt
        have : Ideal.exp ⊥ = 0 := rfl
        rw [this, zero_mul] at hlt
        exact absurd hlt (lt_irrefl _)
      · have e : s k - ⊥ = ⊤ := by rw [sub_eq_add_neg, EReal.neg_bot, EReal.add_top_of_ne_bot h]
        rw [e] at hlt ⊢
        have e2 : Ideal.exp ⊤ = ⊤ := rfl
        rw [e2] at hlt ⊢
        rcases lt_trichotomy (cs k) 0 with h0 | h0 | h0
        · rw [EReal.top_mul_of_neg h0] at hlt; exact absurd hlt (by simp)
        · rw [h0, mul_zero] at hlt; exact absurd hlt (lt_irrefl _)
        · exact EReal.top_mul_of_pos h0
    have hsup : (Finset.range M).sup (ww M s cs) = ⊤ := top_le_iff.mp (htop ▸ Finset.le_sup (f := ww M s cs) hk)
    intro j _
    rw [hsup, expoR_top, EReal.sub_top]
    have : Ideal.exp2 ⊥ = 0 := rfl
    rw [this, mul_zero]

/-! ## The rows with a finite largest score -/

/-- Where the largest score is a real number both outputs are the weighted sum of the values, negative weights counted as zero. -/
theorem regular (M : ℕ) (s cs ct : ℕ → EReal) (μ : ℝ) (hμ : mx M s = (μ : EReal))
    (hcs : ∀ k ∈ Finset.range M, cs k ≤ ((16777215 * 2 ^ 104 : ℝ) : EReal)) : outK M s cs ct = outR M s cs ct := by
  classical
  -- the weights are real numbers between zero and one
  have hsle : ∀ k ∈ Finset.range M, s k ≤ (μ : EReal) := fun k hk => hμ ▸ Finset.le_sup (f := s) hk
  have hne : (Finset.range M).Nonempty := by
    rcases (Finset.range M).eq_empty_or_nonempty with h | h
    · unfold mx at hμ; rw [h, Finset.sup_empty] at hμ; exact absurd hμ.symm (EReal.coe_ne_bot μ)
    · exact h
  set t : ℕ → ℝ := fun k => if s k = ⊥ then 0 else Real.exp ((s k).toReal - μ) with ht
  have hreal : ∀ k ∈ Finset.range M, s k ≠ ⊥ → ((s k).toReal : EReal) = s k := fun k hk h =>
    EReal.coe_toReal (ne_top_of_le_ne_top (EReal.coe_ne_top μ) (hsle k hk)) h
  have htt : ∀ k ∈ Finset.range M, tt M s k = (t k : EReal) := by
    intro k hk
    unfold tt
    rw [hμ]
    by_cases h : s k = ⊥
    · simp only [ht, h, if_true, EReal.bot_sub]; rfl
    · simp only [ht, h, if_false]
      conv_lhs => rw [← hreal k hk h, ← EReal.coe_sub]
      rfl
  have ht0 : ∀ k, 0 ≤ t k := by
    intro k; simp only [ht]; split <;> positivity
  have ht1 : ∀ k ∈ Finset.range M, t k ≤ 1 := by
    intro k hk
    simp only [ht]
    split
    · norm_num
    · rename_i h
      rw [Real.exp_le_one_iff]
      have := hsle k hk
      rw [← hreal k hk h, EReal.coe_le_coe_iff] at this
      linarith
  set l : ℝ := ∑ k ∈ Finset.range M, t k with hl
  have hll : ll M s = (l : EReal) := by
    unfold ll
    rw [Finset.sum_congr rfl htt, hl]
    induction Finset.range M using Finset.induction_on with
    | empty => simp
    | insert a S ha ih => rw [Finset.sum_insert ha, Finset.sum_insert ha, EReal.coe_add, ih]
  have hl1 : 1 ≤ l := by
    obtain ⟨k, hk, hmax⟩ := Finset.exists_mem_eq_sup (Finset.range M) hne s
    have hk' : s k = (μ : EReal) := hmax.symm.trans hμ
    have : t k = 1 := by simp [ht, hk']
    rw [← this]
    exact Finset.single_le_sum (f := t) (fun i _ => ht0 i) hk
  have hl0 : 0 < l := by linarith
  -- the reference's weights are the kernel's over their sum
  have hlse : lse M s = ((μ + Real.log l : ℝ) : EReal) := by
    unfold lse
    rw [hμ, hll, EReal.coe_add]
    congr 1
    exact if_neg (not_le.mpr hl0)
  have hw : ∀ k ∈ Finset.range M, ww M s cs k = ((t k * l⁻¹ : ℝ) : EReal) * cs k := by
    intro k hk
    unfold ww
    rw [hlse]
    congr 1
    by_cases h : s k = ⊥
    · rw [h, EReal.bot_sub]; simp [ht, h]
    · rw [← hreal k hk h, ← EReal.coe_sub]
      show ((Real.exp _ : ℝ) : EReal) = _
      congr 1
      simp only [ht, h, if_false]
      rw [← sub_sub, Real.exp_sub _ (Real.log l), Real.exp_log hl0, div_eq_mul_inv]
  have hbound : ∀ k ∈ Finset.range M, ww M s cs k ≤ ((16777215 * 2 ^ 104 : ℝ) : EReal) := by
    intro k hk
    rw [hw k hk]
    have hp0 : 0 ≤ t k * l⁻¹ := mul_nonneg (ht0 k) (inv_nonneg.mpr hl0.le)
    have hp1 : t k * l⁻¹ ≤ 1 := by
      have : l⁻¹ ≤ 1 := inv_le_one_of_one_le₀ hl1
      nlinarith [ht0 k, ht1 k hk, inv_nonneg.mpr hl0.le]
    refine (mul_le_mul_of_nonneg_left (hcs k hk) (EReal.coe_nonneg.mpr hp0)).trans ?_
    rw [← EReal.coe_mul, EReal.coe_le_coe_iff]
    nlinarith
  -- the kernel's side
  have hK : outK M s cs ct = ∑ k ∈ Finset.range M, ct k * max 0 (ww M s cs k) := by
    have hlinv : (0 : EReal) ≤ ((l⁻¹ : ℝ) : EReal) := EReal.coe_nonneg.mpr (inv_nonneg.mpr hl0.le)
    have hdiv : ∀ x : EReal, Ideal.div x (l : EReal) = x * ((l⁻¹ : ℝ) : EReal) := by
      intro x
      unfold Ideal.div
      rw [if_neg (by exact_mod_cast hl0.ne'), EReal.coe_inv]
    have hwk : ∀ k ∈ Finset.range M, tt M s k * cs k * ((l⁻¹ : ℝ) : EReal) = ww M s cs k := by
      intro k hk
      rw [hw k hk, htt k hk, EReal.coe_mul, mul_right_comm]
    set A : EReal := Ideal.div (aa M s cs) (ll M s) with hA
    have hA' : A = aa M s cs * ((l⁻¹ : ℝ) : EReal) := by rw [hA, hll, hdiv]
    have hA0 : 0 ≤ A := hA' ▸ mul_nonneg (le_max_left _ _) hlinv
    have hAw : ∀ k ∈ Finset.range M, ww M s cs k ≤ A := by
      intro k hk
      rw [← hwk k hk, hA']
      exact mul_le_mul_of_nonneg_right (le_max_of_le_right (Finset.le_sup (f := fun k => tt M s k * cs k) hk)) hlinv
    have hAle : A ≤ ((16777215 * 2 ^ 104 : ℝ) : EReal) := by
      rw [hA']
      unfold aa
      rcases le_total ((Finset.range M).sup fun k => tt M s k * cs k) 0 with h | h
      · rw [max_eq_left h, zero_mul]; exact EReal.coe_nonneg.mpr (by norm_num)
      · rw [max_eq_right h]
        obtain ⟨k, hk, hmax⟩ := Finset.exists_mem_eq_sup (Finset.range M) hne (fun k => tt M s k * cs k)
        rw [hmax, hwk k hk]
        exact hbound k hk
    obtain ⟨α, hα⟩ : ∃ α : ℝ, A = (α : EReal) :=
      ⟨A.toReal, (EReal.coe_toReal (ne_top_of_le_ne_top (EReal.coe_ne_top _) hAle) (ne_bot_of_le_ne_bot EReal.zero_ne_bot hA0)).symm⟩
    obtain ⟨R, hR, hdn, hup, hR448⟩ := kernel_scale α (by rw [hα] at hA0; exact EReal.coe_nonneg.mp hA0) (by rw [hα] at hAle; exact EReal.coe_le_coe_iff.mp hAle)
    unfold outK
    rw [← hA, hα, hdn, hup, hll, hdiv, ofBits_448]
    have e : ∀ k ∈ Finset.range M, ct k * min ((448 : ℝ) : EReal) (max 0 (tt M s k * cs k * ((R : EReal) * ((l⁻¹ : ℝ) : EReal))))
        = ct k * min ((448 : ℝ) : EReal) (max 0 (ww M s cs k * R)) := by
      intro k hk
      rw [← hwk k hk, mul_comm (R : EReal), ← mul_assoc]
    rw [Finset.sum_congr rfl e]
    refine unscale M (ww M s cs) ct R hR fun k hk => ?_
    have := mul_le_mul_of_nonneg_right (hAw k hk) (EReal.coe_nonneg.mpr hR.le)
    refine this.trans ?_
    rw [hα, ← EReal.coe_mul, EReal.coe_le_coe_iff]
    exact hR448
  -- the reference's side
  rw [hK]
  set a : EReal := (Finset.range M).sup (ww M s cs) with ha
  by_cases hpos : a ≤ 0
  · rw [outR_nonpos, Finset.sum_eq_zero]
    · intro k hk
      rw [max_eq_left ((Finset.le_sup (f := ww M s cs) hk).trans hpos), mul_zero]
    · intro k hk
      have := mul_le_mul_of_nonneg_right ((Finset.le_sup (f := ww M s cs) hk).trans hpos) (exp2_nonneg (0 - expoR a))
      simpa using this
  · have hpos := not_le.mp hpos
    have hale : a ≤ ((16777215 * 2 ^ 104 : ℝ) : EReal) := Finset.sup_le hbound
    obtain ⟨α, hα⟩ : ∃ α : ℝ, a = (α : EReal) :=
      ⟨a.toReal, (EReal.coe_toReal (ne_top_of_le_ne_top (EReal.coe_ne_top _) hale) (ne_bot_of_gt hpos)).symm⟩
    obtain ⟨R, hR, hdn, hup, hR448⟩ := reference_scale α (by rw [hα] at hpos; exact EReal.coe_pos.mp hpos)
    unfold outR
    rw [← ha, hα, hdn, hup, ofBits_448]
    simp only [mul_comm _ (ct _)]
    refine (unscale M (ww M s cs) ct R hR fun k hk => ?_).symm
    have := mul_le_mul_of_nonneg_right (Finset.le_sup (f := ww M s cs) hk) (EReal.coe_nonneg.mpr hR.le)
    refine this.trans ?_
    rw [← ha, hα, ← EReal.coe_mul, EReal.coe_le_coe_iff]
    exact hR448

/-- The kernel's output element over the keys it visits is the reference's over every key. -/
theorem out_eq {N M : ℕ} (hNM : N ≤ M) {s : ℕ → EReal} (hs : ∀ k, N ≤ k → s k = ⊥) (cs ct : ℕ → EReal)
    (hcs : ∀ k, cs k ≤ ((16777215 * 2 ^ 104 : ℝ) : EReal)) : outK N s cs ct = outR M s cs ct := by
  rw [outK_eq hNM hs]
  rcases eq_or_ne (mx M s) ⊤ with h | h
  · exact degenerate M s cs ct fun k _ => by unfold tt; rw [h, EReal.sub_top]; rfl
  rcases eq_or_ne (mx M s) ⊥ with h' | h'
  · refine degenerate M s cs ct fun k hk => ?_
    have : s k = ⊥ := le_bot_iff.mp (h' ▸ Finset.le_sup (f := s) hk)
    unfold tt; rw [this, EReal.bot_sub]; rfl
  · exact regular M s cs ct _ (EReal.coe_toReal h h').symm fun k _ => hcs k

/-! ## Whole arrays -/

section
variable (qc : Vec Ideal Sqc .fp8e4m3) (qs : Vec Ideal Sqs .f32) (qr : Vec Ideal Sqr .bf16)
  (cc : Vec Ideal Sc .fp8e4m3) (cs : Vec Ideal Scs .f32) (kr : Vec Ideal Skr .bf16) (ln : Vec Ideal Sln .i32)
  (b : Fin 2) (tok : Fin 2816) (h : Fin 128)

/-- The visited keys are among all. -/
theorem visited_le : visited tok.val ≤ 2816 := by
  have := tok.isLt
  unfold visited
  omega

/-- The keys not visited are after the token. -/
theorem score_masked (k : ℕ) (hk : visited tok.val ≤ k) : score qc qs qr cc cs kr b tok h k = ⊥ := by
  unfold visited at hk
  unfold score
  exact if_neg (by omega)

/-- The two programs' logarithms agree. -/
theorem lseA_eq : lseA qc qs qr cc cs kr ln b tok h = lseB qc qs qr cc cs kr ln b tok h := by
  unfold lseA lseB
  rw [lse_eq (visited_le tok) (score_masked qc qs qr cc cs kr b tok h)]

/-- The two programs' outputs agree, for finite scales. -/
theorem outA_eq (d : Fin 512) (hcs : ∀ i, cs i ≤ ((16777215 * 2 ^ 104 : ℝ) : EReal)) :
    outA qc qs qr cc cs kr ln b tok h d = outB qc qs qr cc cs kr ln b tok h d := by
  unfold outA outB
  rw [out_eq (visited_le tok) (score_masked qc qs qr cc cs kr b tok h) (scales cs b) (vals cc b d) fun k => hcs _]

end

end Attend

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_scales_finite
public import proofs.«01_k».proof.Proof.Kernel.Frame
public import proofs.«01_k».proof.Proof.KernelIdeal.Value
public import proofs.«01_k».proof.Proof.ReferenceIdeal.Final
public import proofs.«01_k».proof.Proof.Math.Equal
public import Idealize.ShloMosaic.Adequacy
public import Idealize.ShloMosaic.Init

@[expose] public section

noncomputable section

namespace Cert.Proof

open Idealize.ShloMosaic Idealize.SL.Sem Cert.Kernel

/-- What the precondition says: every key scale is at most the greatest finite number. -/
theorem scales_le (x0 : FVec Ideal Cert.Pre_scales_finite.S2x2816x128x512 .fp8e4m3) (x1 : FVec Ideal Cert.Pre_scales_finite.S2x2816x128 .f32)
    (x2 : FVec Ideal Cert.Pre_scales_finite.S2x2816x128x64 .bf16) (x3 : FVec Ideal Cert.Pre_scales_finite.S2x2816x512 .fp8e4m3)
    (x4 : FVec Ideal Cert.Pre_scales_finite.S2x2816 .f32) (x5 : FVec Ideal Cert.Pre_scales_finite.S2x2816x64 .bf16) (x6 : IVec Cert.Pre_scales_finite.S2 32)
    (h : Cert.Pre_scales_finite.fn (F := Ideal) x0 x1 x2 x3 x4 x5 x6 = fun _ => 1#1) (i : Cert.Pre_scales_finite.S2x2816.Idx) :
    x4 i ≤ ((16777215 * 2 ^ 104 : ℝ) : EReal) := by
  have hi := congrFun h i
  rw [← Attend.ofBits_max]
  by_contra hc
  have : BitVec.ofBool (decide (x4 i ≤ Ideal.ofBits FTy.f32 0x7F7FFFFF#32)) = 1#1 := hi
  rw [decide_eq_false hc] at this
  exact absurd this (by decide)

/-- Both programs end with the same attention. -/
theorem algebraic : Cert.algebraic_KernelIdeal_ReferenceIdeal_pre_scales_finite := by
  intro m g m' g' hpre hagree
  refine ⟨Cert.KernelIdeal.Attend.out0 m, Cert.KernelIdeal.Attend.out1 m, Cert.KernelIdeal.Attend.run_values m g, ?_⟩
  refine (θ_run _ _ _).mono (fun r h c => ?_) (Cert.ReferenceIdeal.Value.run_blocks m' g')
  obtain ⟨h0, h1, hargs⟩ := h c
  obtain ⟨a0, a1, a2, a3, a4, a5, a6⟩ := hagree c
  refine ⟨h0.trans ((Cert.ReferenceIdeal.Attend.final7 m' c).trans ?_), h1.trans ((Cert.ReferenceIdeal.Attend.final8 m' c).trans ?_), hargs⟩
  · funext y
    rw [a0, a1, a2, a3, a4, a5, a6]
    exact (Attend.outA_eq _ _ _ _ _ _ _ (y 0) (y 1) (y 2) (y 3) (scales_le _ _ _ _ _ _ _ (hpre c))).symm
  · funext y
    rw [a0, a1, a2, a3, a4, a5, a6]
    exact (Attend.lseA_eq _ _ _ _ _ _ _ (y 0) (Attend.row (y 1) (y 2)) (y 3)).symm

theorem claim : Cert.Claim := ⟨Cert.Kernel.Gen.facts, Cert.KernelIdeal.Gen.facts, Cert.ReferenceIdeal.Gen.facts, Cert.Pre_scales_finite.Gen.facts,
    fun m ρ _ => Cert.Kernel.Attend.frame m ρ trivial,
    fun m ρ _ => Cert.KernelIdeal.Attend.frame m ρ trivial,
    fun m ρ _ => Cert.KernelIdeal.Attend.frame m ρ trivial,
    fun m ρ _ => Cert.ReferenceIdeal.Gen.frame m ρ,
    fun m ρ _ => Cert.ReferenceIdeal.Gen.frame m ρ,
    IdealRules.named_const.statement Cert.KernelIdeal.κ "masked" .f32 0xF149F2CA#32 ⊥ rfl,
    algebraic⟩

end Cert.Proof

end
